-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S16384x128 : Shape := ⟨2, ![16384, 128]⟩
abbrev S16384 : Shape := ⟨1, ![16384]⟩
abbrev S1000x128 : Shape := ⟨2, ![1000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : IVec S16384 32) (main_arg2 : FVec F S1000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x128 : Shape := ⟨2, ![16384, 128]⟩
abbrev S16384 : Shape := ⟨1, ![16384]⟩
abbrev S1000x128 : Shape := ⟨2, ![1000, 128]⟩
abbrev S32x16 : Shape := ⟨2, ![32, 16]⟩
abbrev S512 : Shape := ⟨1, ![512]⟩
abbrev S16 : Shape := ⟨1, ![16]⟩
abbrev S_ : Shape := ⟨0, ![]⟩
abbrev S128x128 : Shape := ⟨2, ![128, 128]⟩
abbrev S64x128 : Shape := ⟨2, ![64, 128]⟩
abbrev S128 : Shape := ⟨1, ![128]⟩
abbrev S1x16 : Shape := ⟨2, ![1, 16]⟩

abbrev nBuf : Table → Nat
  | .hbm => 8
  | .shared => 1
  | .local .scVector .vmem => 8
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .shared, ⟨0, _⟩ => ⟨S1000x128, .f32⟩
  | .local .scVector .vmem, ⟨0, _⟩ => ⟨S512, .i32⟩
  | .local .scVector .vmem, ⟨1, _⟩ => ⟨S16, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | _, _ => ⟨S16384x128, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 5 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch4 : Ref sig .scVector := ⟨.vmem, 2, rfl⟩
abbrev cc0_scratch5 : Ref sig .scVector := ⟨.vmem, 3, rfl⟩
abbrev cc0_scratch6 : Ref sig .scVector := ⟨.vmem, 4, rfl⟩
abbrev cc0_scratch7 : Ref sig .scVector := ⟨.vmem, 5, rfl⟩
abbrev cc0_scratch8 : Ref sig .scVector := ⟨.vmem, 6, rfl⟩
abbrev cc0_scratch9 : Ref sig .scVector := ⟨.vmem, 7, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_8 : BitVec 32 := 512#32
  let v14 : BitVec 32 := Scalar.muli v1 c512_i32_8
  ![v14.toNat]
def k0_off3 (i : grid0.Coords) : Fin 2 → Nat :=
  let arg1 : BitVec 32 := BitVec.ofNat 32 (i 1).val
  let c64_i32 : BitVec 32 := 64#32
  let v15 : BitVec 32 := Scalar.muli arg1 c64_i32
  let c936_i32 : BitVec 32 := 936#32
  let v16 : BitVec 32 := Scalar.minsi v15 c936_i32
  let c0_i32_71_r1 : BitVec 32 := 0#32
  ![v16.toNat, 0]
@[reducible] def k0_t1_loop : Scf.Loop 32 :=
  let c0_i32_30 : BitVec 32 := 0#32
  let c128_i32_31 : BitVec 32 := 128#32
  let v35 : BitVec 32 := Scalar.addi c0_i32_30 c128_i32_31
  let c1_i32 : BitVec 32 := 1#32
  ⟨c0_i32_30, v35, c1_i32⟩
def k0_off4 (k0_t1 : Fin k0_t1_loop.trips) : Fin 2 → Nat :=
  let c0_i32_30 : BitVec 32 := 0#32
  let c1_i32 : BitVec 32 := 1#32
  let arg22 : BitVec 32 := Scf.iv c0_i32_30 c1_i32 k0_t1
  let v79 : Index := Scalar.indexCast arg22
  let c0_71 : Index := 0#32
  ![v79.toNat, 0]
def k0_off5 (k0_t1 : Fin k0_t1_loop.trips) : Fin 2 → Nat :=
  let c0_i32_30 : BitVec 32 := 0#32
  let c1_i32 : BitVec 32 := 1#32
  let arg22 : BitVec 32 := Scf.iv c0_i32_30 c1_i32 k0_t1
  let v88 : Index := Scalar.indexCast arg22
  let c16 : Index := 16#32
  ![v88.toNat, 16]
def k0_off6 (k0_t1 : Fin k0_t1_loop.trips) : Fin 2 → Nat :=
  let c0_i32_30 : BitVec 32 := 0#32
  let c1_i32 : BitVec 32 := 1#32
  let arg22 : BitVec 32 := Scf.iv c0_i32_30 c1_i32 k0_t1
  let v97 : Index := Scalar.indexCast arg22
  let c32 : Index := 32#32
  ![v97.toNat, 32]
def k0_off7 (k0_t1 : Fin k0_t1_loop.trips) : Fin 2 → Nat :=
  let c0_i32_30 : BitVec 32 := 0#32
  let c1_i32 : BitVec 32 := 1#32
  let arg22 : BitVec 32 := Scf.iv c0_i32_30 c1_i32 k0_t1
  let v106 : Index := Scalar.indexCast arg22
  let c48 : Index := 48#32
  ![v106.toNat, 48]
def k0_off8 (k0_t1 : Fin k0_t1_loop.trips) : Fin 2 → Nat :=
  let c0_i32_30 : BitVec 32 := 0#32
  let c1_i32 : BitVec 32 := 1#32
  let arg22 : BitVec 32 := Scf.iv c0_i32_30 c1_i32 k0_t1
  let v115 : Index := Scalar.indexCast arg22
  let c64 : Index := 64#32
  ![v115.toNat, 64]
def k0_off9 (k0_t1 : Fin k0_t1_loop.trips) : Fin 2 → Nat :=
  let c0_i32_30 : BitVec 32 := 0#32
  let c1_i32 : BitVec 32 := 1#32
  let arg22 : BitVec 32 := Scf.iv c0_i32_30 c1_i32 k0_t1
  let v124 : Index := Scalar.indexCast arg22
  let c80 : Index := 80#32
  ![v124.toNat, 80]
def k0_off10 (k0_t1 : Fin k0_t1_loop.trips) : Fin 2 → Nat :=
  let c0_i32_30 : BitVec 32 := 0#32
  let c1_i32 : BitVec 32 := 1#32
  let arg22 : BitVec 32 := Scf.iv c0_i32_30 c1_i32 k0_t1
  let v133 : Index := Scalar.indexCast arg22
  let c96 : Index := 96#32
  ![v133.toNat, 96]
def k0_off11 (k0_t1 : Fin k0_t1_loop.trips) : Fin 2 → Nat :=
  let c0_i32_30 : BitVec 32 := 0#32
  let c1_i32 : BitVec 32 := 1#32
  let arg22 : BitVec 32 := Scf.iv c0_i32_30 c1_i32 k0_t1
  let v142 : Index := Scalar.indexCast arg22
  let c112 : Index := 112#32
  ![v142.toNat, 112]
@[reducible] def k0_t2_loop : Scf.Loop 32 :=
  let c0_i32_44 : BitVec 32 := 0#32
  let c128_i32_45 : BitVec 32 := 128#32
  let v47 : BitVec 32 := Scalar.addi c0_i32_44 c128_i32_45
  let c1_i32_46 : BitVec 32 := 1#32
  ⟨c0_i32_44, v47, c1_i32_46⟩
def k0_off12 (k0_t2 : Fin k0_t2_loop.trips) : Fin 2 → Nat :=
  let c0_i32_44 : BitVec 32 := 0#32
  let c1_i32_46 : BitVec 32 := 1#32
  let arg22 : BitVec 32 := Scf.iv c0_i32_44 c1_i32_46 k0_t2
  let v79 : Index := Scalar.indexCast arg22
  let c0_71 : Index := 0#32
  ![v79.toNat, 0]
def k0_off13 (k0_t2 : Fin k0_t2_loop.trips) : Fin 2 → Nat :=
  let c0_i32_44 : BitVec 32 := 0#32
  let c1_i32_46 : BitVec 32 := 1#32
  let arg22 : BitVec 32 := Scf.iv c0_i32_44 c1_i32_46 k0_t2
  let v88 : Index := Scalar.indexCast arg22
  let c16 : Index := 16#32
  ![v88.toNat, 16]
def k0_off14 (k0_t2 : Fin k0_t2_loop.trips) : Fin 2 → Nat :=
  let c0_i32_44 : BitVec 32 := 0#32
  let c1_i32_46 : BitVec 32 := 1#32
  let arg22 : BitVec 32 := Scf.iv c0_i32_44 c1_i32_46 k0_t2
  let v97 : Index := Scalar.indexCast arg22
  let c32 : Index := 32#32
  ![v97.toNat, 32]
def k0_off15 (k0_t2 : Fin k0_t2_loop.trips) : Fin 2 → Nat :=
  let c0_i32_44 : BitVec 32 := 0#32
  let c1_i32_46 : BitVec 32 := 1#32
  let arg22 : BitVec 32 := Scf.iv c0_i32_44 c1_i32_46 k0_t2
  let v106 : Index := Scalar.indexCast arg22
  let c48 : Index := 48#32
  ![v106.toNat, 48]
def k0_off16 (k0_t2 : Fin k0_t2_loop.trips) : Fin 2 → Nat :=
  let c0_i32_44 : BitVec 32 := 0#32
  let c1_i32_46 : BitVec 32 := 1#32
  let arg22 : BitVec 32 := Scf.iv c0_i32_44 c1_i32_46 k0_t2
  let v115 : Index := Scalar.indexCast arg22
  let c64 : Index := 64#32
  ![v115.toNat, 64]
def k0_off17 (k0_t2 : Fin k0_t2_loop.trips) : Fin 2 → Nat :=
  let c0_i32_44 : BitVec 32 := 0#32
  let c1_i32_46 : BitVec 32 := 1#32
  let arg22 : BitVec 32 := Scf.iv c0_i32_44 c1_i32_46 k0_t2
  let v124 : Index := Scalar.indexCast arg22
  let c80 : Index := 80#32
  ![v124.toNat, 80]
def k0_off18 (k0_t2 : Fin k0_t2_loop.trips) : Fin 2 → Nat :=
  let c0_i32_44 : BitVec 32 := 0#32
  let c1_i32_46 : BitVec 32 := 1#32
  let arg22 : BitVec 32 := Scf.iv c0_i32_44 c1_i32_46 k0_t2
  let v133 : Index := Scalar.indexCast arg22
  let c96 : Index := 96#32
  ![v133.toNat, 96]
def k0_off19 (k0_t2 : Fin k0_t2_loop.trips) : Fin 2 → Nat :=
  let c0_i32_44 : BitVec 32 := 0#32
  let c1_i32_46 : BitVec 32 := 1#32
  let arg22 : BitVec 32 := Scf.iv c0_i32_44 c1_i32_46 k0_t2
  let v142 : Index := Scalar.indexCast arg22
  let c112 : Index := 112#32
  ![v142.toNat, 112]
@[reducible] def k0_t3_loop : Scf.Loop 32 :=
  let c0_i32_53 : BitVec 32 := 0#32
  let c128_i32_54 : BitVec 32 := 128#32
  let v53 : BitVec 32 := Scalar.addi c0_i32_53 c128_i32_54
  let c1_i32_55 : BitVec 32 := 1#32
  ⟨c0_i32_53, v53, c1_i32_55⟩
def k0_off20 (k0_t3 : Fin k0_t3_loop.trips) : Fin 2 → Nat :=
  let c0_i32_53 : BitVec 32 := 0#32
  let c1_i32_55 : BitVec 32 := 1#32
  let arg22 : BitVec 32 := Scf.iv c0_i32_53 c1_i32_55 k0_t3
  let v79 : Index := Scalar.indexCast arg22
  let c0_71 : Index := 0#32
  ![v79.toNat, 0]
def k0_off21 (k0_t3 : Fin k0_t3_loop.trips) : Fin 2 → Nat :=
  let c0_i32_53 : BitVec 32 := 0#32
  let c1_i32_55 : BitVec 32 := 1#32
  let arg22 : BitVec 32 := Scf.iv c0_i32_53 c1_i32_55 k0_t3
  let v88 : Index := Scalar.indexCast arg22
  let c16 : Index := 16#32
  ![v88.toNat, 16]
def k0_off22 (k0_t3 : Fin k0_t3_loop.trips) : Fin 2 → Nat :=
  let c0_i32_53 : BitVec 32 := 0#32
  let c1_i32_55 : BitVec 32 := 1#32
  let arg22 : BitVec 32 := Scf.iv c0_i32_53 c1_i32_55 k0_t3
  let v97 : Index := Scalar.indexCast arg22
  let c32 : Index := 32#32
  ![v97.toNat, 32]
def k0_off23 (k0_t3 : Fin k0_t3_loop.trips) : Fin 2 → Nat :=
  let c0_i32_53 : BitVec 32 := 0#32
  let c1_i32_55 : BitVec 32 := 1#32
  let arg22 : BitVec 32 := Scf.iv c0_i32_53 c1_i32_55 k0_t3
  let v106 : Index := Scalar.indexCast arg22
  let c48 : Index := 48#32
  ![v106.toNat, 48]
def k0_off24 (k0_t3 : Fin k0_t3_loop.trips) : Fin 2 → Nat :=
  let c0_i32_53 : BitVec 32 := 0#32
  let c1_i32_55 : BitVec 32 := 1#32
  let arg22 : BitVec 32 := Scf.iv c0_i32_53 c1_i32_55 k0_t3
  let v115 : Index := Scalar.indexCast arg22
  let c64 : Index := 64#32
  ![v115.toNat, 64]
def k0_off25 (k0_t3 : Fin k0_t3_loop.trips) : Fin 2 → Nat :=
  let c0_i32_53 : BitVec 32 := 0#32
  let c1_i32_55 : BitVec 32 := 1#32
  let arg22 : BitVec 32 := Scf.iv c0_i32_53 c1_i32_55 k0_t3
  let v124 : Index := Scalar.indexCast arg22
  let c80 : Index := 80#32
  ![v124.toNat, 80]
def k0_off26 (k0_t3 : Fin k0_t3_loop.trips) : Fin 2 → Nat :=
  let c0_i32_53 : BitVec 32 := 0#32
  let c1_i32_55 : BitVec 32 := 1#32
  let arg22 : BitVec 32 := Scf.iv c0_i32_53 c1_i32_55 k0_t3
  let v133 : Index := Scalar.indexCast arg22
  let c96 : Index := 96#32
  ![v133.toNat, 96]
def k0_off27 (k0_t3 : Fin k0_t3_loop.trips) : Fin 2 → Nat :=
  let c0_i32_53 : BitVec 32 := 0#32
  let c1_i32_55 : BitVec 32 := 1#32
  let arg22 : BitVec 32 := Scf.iv c0_i32_53 c1_i32_55 k0_t3
  let v142 : Index := Scalar.indexCast arg22
  let c112 : Index := 112#32
  ![v142.toNat, 112]
@[reducible] def k0_t4_loop : Scf.Loop 32 :=
  let c0_i32_62 : BitVec 32 := 0#32
  let c128_i32_63 : BitVec 32 := 128#32
  let v59 : BitVec 32 := Scalar.addi c0_i32_62 c128_i32_63
  let c1_i32_64 : BitVec 32 := 1#32
  ⟨c0_i32_62, v59, c1_i32_64⟩
def k0_off28 (k0_t4 : Fin k0_t4_loop.trips) : Fin 2 → Nat :=
  let c0_i32_62 : BitVec 32 := 0#32
  let c1_i32_64 : BitVec 32 := 1#32
  let arg22 : BitVec 32 := Scf.iv c0_i32_62 c1_i32_64 k0_t4
  let v79 : Index := Scalar.indexCast arg22
  let c0_71 : Index := 0#32
  ![v79.toNat, 0]
def k0_off29 (k0_t4 : Fin k0_t4_loop.trips) : Fin 2 → Nat :=
  let c0_i32_62 : BitVec 32 := 0#32
  let c1_i32_64 : BitVec 32 := 1#32
  let arg22 : BitVec 32 := Scf.iv c0_i32_62 c1_i32_64 k0_t4
  let v88 : Index := Scalar.indexCast arg22
  let c16 : Index := 16#32
  ![v88.toNat, 16]
def k0_off30 (k0_t4 : Fin k0_t4_loop.trips) : Fin 2 → Nat :=
  let c0_i32_62 : BitVec 32 := 0#32
  let c1_i32_64 : BitVec 32 := 1#32
  let arg22 : BitVec 32 := Scf.iv c0_i32_62 c1_i32_64 k0_t4
  let v97 : Index := Scalar.indexCast arg22
  let c32 : Index := 32#32
  ![v97.toNat, 32]
def k0_off31 (k0_t4 : Fin k0_t4_loop.trips) : Fin 2 → Nat :=
  let c0_i32_62 : BitVec 32 := 0#32
  let c1_i32_64 : BitVec 32 := 1#32
  let arg22 : BitVec 32 := Scf.iv c0_i32_62 c1_i32_64 k0_t4
  let v106 : Index := Scalar.indexCast arg22
  let c48 : Index := 48#32
  ![v106.toNat, 48]
def k0_off32 (k0_t4 : Fin k0_t4_loop.trips) : Fin 2 → Nat :=
  let c0_i32_62 : BitVec 32 := 0#32
  let c1_i32_64 : BitVec 32 := 1#32
  let arg22 : BitVec 32 := Scf.iv c0_i32_62 c1_i32_64 k0_t4
  let v115 : Index := Scalar.indexCast arg22
  let c64 : Index := 64#32
  ![v115.toNat, 64]
def k0_off33 (k0_t4 : Fin k0_t4_loop.trips) : Fin 2 → Nat :=
  let c0_i32_62 : BitVec 32 := 0#32
  let c1_i32_64 : BitVec 32 := 1#32
  let arg22 : BitVec 32 := Scf.iv c0_i32_62 c1_i32_64 k0_t4
  let v124 : Index := Scalar.indexCast arg22
  let c80 : Index := 80#32
  ![v124.toNat, 80]
def k0_off34 (k0_t4 : Fin k0_t4_loop.trips) : Fin 2 → Nat :=
  let c0_i32_62 : BitVec 32 := 0#32
  let c1_i32_64 : BitVec 32 := 1#32
  let arg22 : BitVec 32 := Scf.iv c0_i32_62 c1_i32_64 k0_t4
  let v133 : Index := Scalar.indexCast arg22
  let c96 : Index := 96#32
  ![v133.toNat, 96]
def k0_off35 (k0_t4 : Fin k0_t4_loop.trips) : Fin 2 → Nat :=
  let c0_i32_62 : BitVec 32 := 0#32
  let c1_i32_64 : BitVec 32 := 1#32
  let arg22 : BitVec 32 := Scf.iv c0_i32_62 c1_i32_64 k0_t4
  let v142 : Index := Scalar.indexCast arg22
  let c112 : Index := 112#32
  ![v142.toNat, 112]
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩

abbrev nD : Nat := 1
abbrev τ : Topo := Topo.v7x

variable {F : FTy → Type} [FloatOps F]
-- ==== Proof.Ghost.lean ====
/-
  Ghost-state lemmas the kernel's run needs and that speak of no particular kernel: a resource indexed by a share dealt to
  the leaves of a halving tree and collected again; the exchange by which several writers of one buffer, each holding a
  share of it in write mode, become several readers of it, each holding a share of its contents; and a transfer whose
  destination is held in write mode.
-/
module

public import Idealize.ShloMosaic.Lib.WriteMode
public import Idealize.ShloMosaic.Lib.ShareLeaves
public import Idealize.ShloMosaic.Lib.Transfers
public import Idealize.ShloMosaic.Lib.SparseCore.Launch
public import Idealize.ShloMosaic.Lib.Tactic

@[expose] public section

noncomputable section

namespace Cert.Proof.Ghost

open Idealize.ShloMosaic Idealize.ShloMosaic.ShareLeaves Idealize.ShloMosaic.Transfers
open Idealize.SL Idealize.SL.RA Idealize.SL.BI
open scoped Idealize.SL.BI
open Idealize.SL.BI.BIBase Idealize.SL.BI.Laws Idealize.SL.ProofMode Idealize.SL.Sem

/-! ## Big conjunctions in the proof mode's syntax -/

section Big

variable {M : Type} [URA M] {I : Type}

/-- A big conjunction over a finite type, split at one index. -/
theorem big_at [Fintype I] [DecidableEq I] (i : I) (Φ : I → sProp M) :
    bigSep Finset.univ Φ = iprop(Φ i ∗ bigSep (Finset.univ.erase i) Φ) := bigSep_univ_split i

/-- One conjunct of a big conjunction. -/
theorem big_get [Fintype I] [DecidableEq I] (i : I) (Φ : I → sProp M) : bigSep Finset.univ Φ ⊢ Φ i :=
  bigSep_elim (Finset.mem_univ i)

/-- Big conjunctions are monotone. -/
theorem big_mono {s : Finset I} {Φ Ψ : I → sProp M} (h : ∀ i ∈ s, Φ i ⊢ Ψ i) : bigSep s Φ ⊢ bigSep s Ψ := bigSep_mono h

end Big

/-! ## Shares dealt to the leaves of a halving tree -/

section Leaves

variable {M : Type} [URA M]

/-- A big conjunction over the leaves of a share is one over its left half's and one over its right half's. -/
theorem bigSep_leaves_succ (n : ℕ) (Φ : Fin (2 ^ (n + 1)) → sProp M) :
    bigSep Finset.univ Φ = iprop((bigSep Finset.univ fun i : Fin (2 ^ n) => Φ (sumEquiv n (Sum.inl i)))
      ∗ bigSep Finset.univ fun i : Fin (2 ^ n) => Φ (sumEquiv n (Sum.inr i))) := by
  rw [bigSep_univ_equiv (sumEquiv n) Φ, bigSep_univ_sum]; rfl

/-- What halves along the share is dealt to the leaves. -/
theorem leaves_split (Φ : PosShare TreeShare → sProp M) (h : ∀ q, Φ q ⊢ iprop(Φ q.left ∗ Φ q.right)) :
    ∀ (n : ℕ) (q : PosShare TreeShare), Φ q ⊢ bigSep Finset.univ fun i : Fin (2 ^ n) => Φ (leaf n q i)
  | 0, q => Entails.of_eq (bigSep_univ_of_subsingleton (0 : Fin 1) (Φ := fun i : Fin (2 ^ 0) => Φ (leaf 0 q i))).symm
  | n + 1, q => by
    rw [bigSep_leaves_succ]
    simp only [leaf_inl, leaf_inr]
    exact (h q).trans (BI.sep_mono (leaves_split Φ h n q.left) (leaves_split Φ h n q.right))

/-- What joins along the share, its mark sets uniting, is collected from the leaves with the union of their marks. -/
theorem leaves_join {α : Type} [DecidableEq α] (Ψ : PosShare TreeShare → Finset α → sProp M)
    (h : ∀ q W W', iprop(Ψ q.left W ∗ Ψ q.right W') ⊢ Ψ q (W ∪ W')) :
    ∀ (n : ℕ) (q : PosShare TreeShare) (W : Fin (2 ^ n) → Finset α),
      (bigSep Finset.univ fun i : Fin (2 ^ n) => Ψ (leaf n q i) (W i)) ⊢ Ψ q (Finset.univ.biUnion W)
  | 0, q, W => by
    rw [show (Finset.univ : Finset (Fin (2 ^ 0))) = {0} from rfl, Finset.singleton_biUnion, bigSep_singleton]; exact .rfl
  | n + 1, q, W => by
    rw [bigSep_leaves_succ]
    simp only [leaf_inl, leaf_inr]
    refine (BI.sep_mono (leaves_join Ψ h n q.left fun i => W (sumEquiv n (Sum.inl i)))
      (leaves_join Ψ h n q.right fun i => W (sumEquiv n (Sum.inr i)))).trans ((h q _ _).trans (Entails.of_eq ?_))
    congr 1
    ext x
    simp only [Finset.mem_union, Finset.mem_biUnion, Finset.mem_univ, true_and]
    constructor
    · rintro (⟨i, hi⟩ | ⟨i, hi⟩) <;> exact ⟨_, hi⟩
    · rintro ⟨i, hi⟩
      obtain ⟨j, rfl⟩ := (sumEquiv n).surjective i
      rcases j with j | j
      · exact .inl ⟨j, hi⟩
      · exact .inr ⟨j, hi⟩

end Leaves

/-! ## The exchange of write shares for read shares -/

section Exchange

variable {M : Type} [URA M] {I : Type} [Fintype I] [DecidableEq I]
variable (tok : I → I → sProp M) (dep W R : I → sProp M)

/-- The exchange's two states. COLLECTING: party `i` either has yet to deposit its write share, and its tokens wait for it, or
    has deposited it with its deposit token. DEALING: every party has deposited; the write shares are gone, and party `j`'s
    read share waits for it, or party `j` has taken it against every party's token for it. -/
def exch : sProp M :=
  iprop((bigSep Finset.univ fun i => iprop((bigSep Finset.univ fun j => tok i j) ∨ (W i ∗ dep i)))
    ∨ ((bigSep Finset.univ dep) ∗ bigSep Finset.univ fun j => iprop(R j ∨ bigSep Finset.univ fun i => tok i j)))

/-- Party `i` deposits its write share and leaves with its tokens, one for each party. -/
theorem exch_deposit (hdep : ∀ i, iprop(dep i ∗ dep i) ⊢ (False : sProp M)) (i : I) :
    iprop(exch tok dep W R ∗ W i ∗ dep i) ⊢ iprop(exch tok dep W R ∗ bigSep Finset.univ fun j => tok i j) := by
  unfold exch
  iintro ⟨H, HW, Hd⟩
  icases H with (HA | HB)
  · ihave HA' := (Entails.of_eq (big_at i _)) $$ HA
    icases HA' with ⟨Hi, Hrest⟩
    icases Hi with (Ht | Hwd)
    · isplitr [Ht]; swap; · iexact Ht
      ileft
      iapply (Entails.of_eq (big_at i _).symm)
      isplitr [Hrest]; swap; · iexact Hrest
      iright
      isplitl [HW] <;> iassumption
    · icases Hwd with ⟨-, Hd'⟩
      ihave HF := (hdep i) $$ [Hd Hd']
      · isplitl [Hd] <;> iassumption
      iexfalso; iexact HF
  · icases HB with ⟨Hds, -⟩
    ihave Hd' := (big_get i (dep)) $$ Hds
    ihave HF := (hdep i) $$ [Hd Hd']
    · isplitl [Hd] <;> iassumption
    iexfalso; iexact HF

/-- Holding every party's token for `j`, every party is seen to have deposited. -/
theorem exch_all (htok : ∀ i j, iprop(tok i j ∗ tok i j) ⊢ (False : sProp M)) (j : I) (s : Finset I) :
    iprop((bigSep s fun i => iprop((bigSep Finset.univ fun j => tok i j) ∨ (W i ∗ dep i))) ∗ bigSep s fun i => tok i j)
      ⊢ iprop((bigSep s W) ∗ (bigSep s dep) ∗ bigSep s fun i => tok i j) := by
  rw [← bigSep_sep', ← bigSep_sep', ← bigSep_sep']
  refine big_mono fun i _ => ?_
  iintro ⟨H, Ht⟩
  icases H with (H | H)
  · ihave Ht' := (big_get j (fun j => tok i j)) $$ H
    ihave HF := (htok i j) $$ [Ht Ht']
    · isplitl [Ht] <;> iassumption
    iexfalso; iexact HF
  · icases H with ⟨HW, Hd⟩
    isplitl [HW]; · iexact HW
    isplitl [Hd] <;> iassumption

/-- Party `j` takes its read share out of the dealing state. -/
theorem exch_take [Nonempty I] (htok : ∀ i j, iprop(tok i j ∗ tok i j) ⊢ (False : sProp M)) (j : I) :
    iprop(((bigSep Finset.univ dep) ∗ bigSep Finset.univ fun j => iprop(R j ∨ bigSep Finset.univ fun i => tok i j)) ∗ bigSep Finset.univ fun i => tok i j)
      ⊢ iprop(exch tok dep W R ∗ R j) := by
  unfold exch
  iintro ⟨⟨Hds, HB⟩, Ht⟩
  ihave HB' := (Entails.of_eq (big_at j _)) $$ HB
  icases HB' with ⟨Hj, Hrest⟩
  icases Hj with (HR | Hts)
  · isplitr [HR]; swap; · iexact HR
    iright
    isplitl [Hds]; · iexact Hds
    iapply (Entails.of_eq (big_at j _).symm)
    isplitr [Hrest]; swap; · iexact Hrest
    iright; iexact Ht
  · obtain ⟨i⟩ := ‹Nonempty I›
    ihave Ht1 := (big_get i (fun i => tok i j)) $$ Ht
    ihave Ht2 := (big_get i (fun i => tok i j)) $$ Hts
    ihave HF := (htok i j) $$ [Ht1 Ht2]
    · isplitl [Ht1] <;> iassumption
    iexfalso; iexact HF

end Exchange

section Withdraw

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable {I : Type} [Fintype I] [DecidableEq I]
variable (tok : I → I → sProp (MT nD τ sig Ix Val Name U Lvl)) (dep W R : I → sProp (MT nD τ sig Ix Val Name U Lvl))

/-- Party `j`, with every party's token for it, leaves with its read share: the first to come turns all the write shares into
    all the read shares (`hc`). -/
theorem exch_withdraw [Nonempty I] (htok : ∀ i j, iprop(tok i j ∗ tok i j) ⊢ (False : sProp 𝕄)) {E : Set Name} {X : sProp 𝕄}
    (hc : iprop(X ∗ bigSep Finset.univ W) ⊢ iprop(|={E}=> bigSep Finset.univ R)) (j : I) :
    iprop(X ∗ exch tok dep W R ∗ bigSep Finset.univ fun i => tok i j) ⊢ iprop(|={E}=> (exch tok dep W R ∗ R j)) := by
  iintro ⟨HX, H, Ht⟩
  ihave H' := (Entails.of_eq (show exch tok dep W R = iprop((bigSep Finset.univ fun i => iprop((bigSep Finset.univ fun j => tok i j) ∨ (W i ∗ dep i)))
    ∨ ((bigSep Finset.univ dep) ∗ bigSep Finset.univ fun j => iprop(R j ∨ bigSep Finset.univ fun i => tok i j))) from rfl)) $$ H
  icases H' with (HA | HB)
  · ihave HA' := (exch_all tok dep W htok j Finset.univ) $$ [HA Ht]
    · isplitl [HA] <;> iassumption
    icases HA' with ⟨HW, Hd, Ht⟩
    imod hc $$ [HX HW] with HR
    · isplitl [HX] <;> iassumption
    imodintro
    iapply (exch_take tok dep W R htok j)
    isplitr [Ht]; swap; · iexact Ht
    isplitl [Hd]; · iexact Hd
    iapply (big_mono (Φ := R) (Ψ := fun j => iprop(R j ∨ bigSep Finset.univ fun i => tok i j)) fun j _ => Laws.or_intro_l)
    iexact HR
  · imodintro
    iapply (exch_take tok dep W R htok j)
    isplitl [HB] <;> iassumption

end Withdraw

/-! ## A buffer in write mode, dealt to its writers -/

section Shared

variable {nD : Nat} {τ : Topo} {sig : RefSig} {Ix : Type} [DecidableEq Ix] {Val : EltTy → Type} {Name : Type} [DecidableEq Name]
variable {U : Type} [URA U] {Lvl : Type} [Preorder Lvl] (emb : UEmb (WmRA nD τ sig Val) U)

local notation "𝕄" => MT nD τ sig Ix Val Name U Lvl

/-- A share of a whole buffer in write mode, its targets `t` given on every element, the elements of `W` known written; what it
    held before is left open. -/
def wshare (ℓ : Loc nD τ sig) (t : Buf Val ℓ) (q : PosShare TreeShare) (W : Finset (Idx ℓ)) : sProp 𝕄 :=
  iprop(∃ f, willBeTo emb ℓ Finset.univ q f (fun i => some (t i)) W)

variable {ℓ : Loc nD τ sig} {t : Buf Val ℓ}

/-- A write-mode share halves. -/
theorem wshare_halve (q : PosShare TreeShare) (W : Finset (Idx ℓ)) :
    (wshare emb ℓ t q W : sProp 𝕄) ⊢ iprop(wshare emb ℓ t q.left W ∗ wshare emb ℓ t q.right W) := by
  haveI : IsOp q q.left q.right := ⟨PosShare.mem_left_op_right q⟩
  unfold wshare willBeTo
  iintro ⟨%f, H⟩
  icases H with ⟨H1, H2⟩
  isplitl [H1]
  · iexists f; iexact H1
  · iexists f; iexact H2

/-- Two halves of a write-mode share join, the elements known written by either being known written. -/
theorem wshare_join (q : PosShare TreeShare) (W W' : Finset (Idx ℓ)) :
    iprop(wshare emb ℓ t q.left W ∗ wshare emb ℓ t q.right W') ⊢ (wshare emb ℓ t q (W ∪ W') : sProp 𝕄) := by
  haveI : IsOp q q.left q.right := ⟨PosShare.mem_left_op_right q⟩
  unfold wshare willBeTo
  iintro ⟨⟨%f, H1⟩, ⟨%f', H2⟩⟩
  icombine H1 H2 gives %h
  obtain rfl : f = f' := funext fun i => (h i (by simp)).1.1
  icombine H1 H2 as H
  iexists f; iexact H

/-- A buffer held outright goes into write mode, dealt to `2 ^ n` writers. -/
theorem wshare_deal {ιwm : Name} {E : Set Name} (hE : ιwm ∈ E) (n : ℕ) (f : Buf Val ℓ) :
    (iprop(wmInv emb ιwm ∗ ℓ ↦[Finset.univ]{fullShare} f) : sProp 𝕄)
      ⊢ iprop(|={E}=> bigSep Finset.univ fun i : Fin (2 ^ n) => wshare emb ℓ t (leaf n fullShare i) ∅) := by
  iintro H
  imod (pointsTo_castIn (emb := emb) (fun i => some (t i)) hE) $$ H with H
  imodintro
  iapply (leaves_split (fun q => (wshare emb ℓ t q ∅ : sProp 𝕄)) (fun q => wshare_halve emb q ∅) n fullShare)
  unfold wshare
  iexists f; iexact H

/-- The writers' shares back, every element written by one of them at least: the buffer's targets are its contents, dealt to
    `2 ^ n` readers. -/
theorem wshare_collect {ιwm : Name} {E : Set Name} (hE : ιwm ∈ E) (n : ℕ) (W : Fin (2 ^ n) → Finset (Idx ℓ))
    (hW : ∀ x, ∃ i, x ∈ W i) :
    (iprop(wmInv emb ιwm ∗ bigSep Finset.univ fun i : Fin (2 ^ n) => wshare emb ℓ t (leaf n fullShare i) (W i)) : sProp 𝕄)
      ⊢ iprop(|={E}=> bigSep Finset.univ fun i : Fin (2 ^ n) => ℓ ↦[Finset.univ]{leaf n fullShare i} t) := by
  have hu : Finset.univ.biUnion W = Finset.univ :=
    Finset.eq_univ_iff_forall.mpr fun x => Finset.mem_biUnion.mpr ((hW x).imp fun i h => ⟨Finset.mem_univ i, h⟩)
  iintro ⟨Hwm, H⟩
  ihave H' := (leaves_join (fun q W => (wshare emb ℓ t q W : sProp 𝕄)) (fun q W W' => wshare_join emb q W W') n fullShare W) $$ H
  rw [hu]
  unfold wshare
  icases H' with ⟨%f, H⟩
  imod (willBeTo_castOut_some (emb := emb) hE) $$ [Hwm H] with H
  · isplitl [Hwm] <;> iassumption
  imodintro
  rw [show (Finset.univ : Finset (Idx ℓ)).piecewise t f = t from funext fun x => Finset.piecewise_eq_of_mem _ _ _ (Finset.mem_univ x)]
  iapply (Entails.of_eq (pointsTo_leaves Finset.univ t n fullShare)) $$ H

end Shared

/-! ## A transfer into a buffer in write mode -/

section Copy

variable {nD : Nat} {τ : Topo} {sig : RefSig} {Ix : Type} [DecidableEq Ix] {Val : EltTy → Type} {Name : Type} [DecidableEq Name]
variable {U : Type} [URA U] {Lvl : Type} [Preorder Lvl] {Λ : Labels} {emb : UEmb (WmRA nD τ sig Val) U}

local notation "𝕄" => MT nD τ sig Ix Val Name U Lvl

variable {defs : Defs nD τ sig Val Λ} (𝒱 : Variants) (EC : UEmb Counters (MT nD τ sig Ix Val Name U Lvl))

/-- A write update yields anything its yield entails. -/
theorem writeUpdate_weaken (c : Thread nD τ) {sp : Space} {s : Shape} {e : EltTy} {v : View sig c.2.kind sp s e} {w : s.Idx → Val e}
    {R R' : sProp 𝕄} (h : R ⊢ R') : writeUpdate c v w R ⊢ writeUpdate c v w R' := by
  unfold writeUpdate writeUpdateFrom
  iintro ⟨%A, HA, Hs, Hl⟩
  iexists A
  isplitl [HA]; · iexact HA
  isplitl [Hs]; · iexact Hs
  iintro H
  iapply h
  iapply Hl $$ H

/-- A copy into a view of a buffer of which a share is held in write mode, what is copied being what the targets say of the
    view's elements: in flight it holds the source's share and the write share, and it gives both back, the view's elements known written. -/
theorem wp_dmaShared [Infinite Name] [EC.LandsIn (upEmb : UEmb _ 𝕄)] (c : Thread nD τ) (bd : Option 𝒱.V)
    {α : Type} {Q : α → sProp 𝕄} {sp sp' : Space} {s : Shape} {e : EltTy}
    {src : Memref sig c.2.kind sp s e} {dst : Memref sig c.2.kind sp' s e} {sm : SemLoc sig} {hsrc : src.view.WordExact} {hdst : dst.view.WordExact}
    {hsem : DmaTarget.Typed (nD := nD) sp sm (.here dst)}
    {k : PUnit → Prog (TpuEff nD τ sig Val Λ c.2) α} {q : PosShare TreeShare} {fs : Buf Val (src.view.loc c)} {ιwm : Name}
    {t : Buf Val (dst.view.loc c)} {qd : PosShare TreeShare}
    (ι : Ix) (N : ℕ) (hN : dst.view.amount sm = N) (hN0 : 0 < N)
    (hadm : dst.view.Admitted Val (fun i => some (t i)) (src.view.read Val fs) Finset.univ) :
    iprop((src.view.loc c ↦[src.view.set]{q} fs) ∗ wmInv emb ιwm ∗ wshare emb (dst.view.loc c) t qd ∅ ∗ semVal (c, sm) 0)
      ⊢ iprop((Flight EC c sm ι N iprop(wshare emb (dst.view.loc c) t qd dst.view.set ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  unfold wshare
  iintro ⟨Hs, Hwm, ⟨%f, Hd⟩, Hv⟩ Hk
  imod (flight_alloc EC hN0 iprop((∃ f, willBeTo emb (dst.view.loc c) Finset.univ qd f (fun i => some (t i)) dst.view.set)
      ∗ (src.view.loc c ↦[src.view.set]{q} fs)) (g := (c, sm))) $$ Hv with ⟨%γ, %δ, %κ, #Hinv, Hγ, Hδ⟩
  iapply (wp_enqueueDma 𝒱 c bd Set.univ ι N hN (R := iprop(∃ f, willBeTo emb (dst.view.loc c) Finset.univ qd f (fun i => some (t i)) dst.view.set))) $$ [Hs Hwm Hd] [Hγ]
  · isplitl [Hs]; · iexact Hs
    have h := willBeTo_writeUpdate (Ix := Ix) (Lvl := Lvl) (emb := emb) (ιwm := ιwm) c (v := dst.view) (w := src.view.read Val fs) (S := Finset.univ) (q := qd)
      (f := f) (g := fun i => some (t i)) (W := ∅) (Finset.subset_univ _) hadm
    rw [Finset.empty_union] at h
    iapply (writeUpdate_weaken c ((exists_intro (Φ := fun f => willBeTo emb (dst.view.loc c) Finset.univ qd f (fun i => some (t i)) dst.view.set) f)))
    iapply h
    isplitl [Hwm] <;> iassumption
  · iapply (flight_creditUpdate EC (δ := δ))
    isplitr; · iexact Hinv
    iexact Hγ
  iintro Hcred
  iapply Hk
  iapply (flight_intro EC c (κ := κ))
  isplitr; · iexact Hinv
  isplitl [Hδ] <;> iassumption

end Copy

end Cert.Proof.Ghost

end
-- ==== Proof.Value.lean ====
/-
  What the kernel's vector subcores compute, as pure functions of the three arguments, over any float values: a chunk of
  128 rows accumulated row by row into eight vectors of sixteen lanes, four chunks of a subcore's 512 rows after one
  another, and the sum of the eight vectors, which is the subcore's row of the result.
-/
module

public import proofs.«01_k».proof.Defs
public import proofs.«01_k».proof.Proof.Gen.KernelIdeal
public import proofs.«01_k».proof.Proof.Gen.KernelIdeal.Skeleton
public import Idealize.ShloMosaic.Lib.Pointwise

@[expose] public section

noncomputable section

namespace Cert.Proof.Value

open Cert.KernelIdeal Cert.KernelIdeal.Gen
open Idealize.ShloMosaic Idealize.ShloMosaic.Pointwise

variable {F : FTy → Type} [FloatOps F]

/-- A 128 × 128 block of floats. -/
abbrev Blk (F : FTy → Type) : Type := S128x128.Idx → Elt F .f32
/-- The eight accumulators. -/
abbrev Accs (F : FTy → Type) : Type := Fin 8 → FVec F S16 .f32

/-- The accumulators as the loops carry them. -/
def tup (A : Accs F) : FVec F S16 .f32 × FVec F S16 .f32 × FVec F S16 .f32 × FVec F S16 .f32 × FVec F S16 .f32 × FVec F S16 .f32 × FVec F S16 .f32 × FVec F S16 .f32 :=
  (A 0, A 1, A 2, A 3, A 4, A 5, A 6, A 7)

/-- Column group `k` of row `r` of a block. -/
def seg (f : Blk F) (r : Fin 128) (k : Fin 8) : FVec F S16 .f32 :=
  fun l => f (ix2 r ⟨16 * k.val + (l 0).val, by have := (l 0).isLt; have : S16.size 0 = 16 := rfl; omega⟩)

/-- One row: each accumulator takes the squared differences of its column group. -/
def rowStep (f g : Blk F) (r : Fin 128) (A : Accs F) : Accs F :=
  fun k => addf (A k) (mulf (subf (seg f r k) (seg g r k)) (subf (seg f r k) (seg g r k)))

/-- The first `n` rows of a block, one after another. -/
def rows (f g : Blk F) : (n : ℕ) → Accs F → Accs F
  | 0, A => A
  | n + 1, A => if h : n < 128 then rowStep f g ⟨n, h⟩ (rows f g n A) else rows f g n A

/-- The accumulators at the start. -/
def zeros : Accs F := fun _ => broadcast S16 (Scalar.ofBits .f32 0x00000000#32)

/-- The 128 rows of `latent` from row `512 * w + 128 * j`. -/
def latBlk (lat : S16384x128.Idx → Elt F .f32) (w : Fin 32) (j : Fin 4) : Blk F :=
  fun x => lat (ix2 ⟨512 * w.val + 128 * j.val + (x 0).val, by have := (x 0).isLt; have : S128x128.size 0 = 128 := rfl; omega⟩ ⟨(x 1).val, (x 1).isLt⟩)

/-- The 512 labels of subcore `w`. -/
def labOf (lab : S16384.Idx → Elt F .i32) (w : Fin 32) : S512.Idx → Elt F .i32 :=
  fun x => lab (ix1 ⟨512 * w.val + (x 0).val, by have := (x 0).isLt; have : S512.size 0 = 512 := rfl; omega⟩)

/-- The rows of the table the labels of chunk `j` name. -/
def cenBlk (cen : S1000x128.Idx → Elt F .f32) (lab : S16384.Idx → Elt F .i32) (w : Fin 32) (j : Fin 4) : Blk F :=
  fun x => cen (ix2 (Fin.ofNat 1000 (BitVec.toNat (lab (ix1 ⟨512 * w.val + 128 * j.val + (x 0).val, by have := (x 0).isLt; have : S128x128.size 0 = 128 := rfl; omega⟩)) : ℕ)) ⟨(x 1).val, (x 1).isLt⟩)

/-- The accumulators of subcore `w` after its first `n` chunks. -/
def chunks (lat : S16384x128.Idx → Elt F .f32) (lab : S16384.Idx → Elt F .i32) (cen : S1000x128.Idx → Elt F .f32) (w : Fin 32) : ℕ → Accs F
  | 0 => zeros
  | n + 1 => if h : n < 4 then rows (latBlk lat w ⟨n, h⟩) (cenBlk cen lab w ⟨n, h⟩) 128 (chunks lat lab cen w n) else chunks lat lab cen w n

/-- The eight accumulators added from the left. -/
def total (A : Accs F) : FVec F S16 .f32 :=
  addf (addf (addf (addf (addf (addf (addf (A 0) (A 1)) (A 2)) (A 3)) (A 4)) (A 5)) (A 6)) (A 7)

/-- The kernel's 32 × 16 array: row `w` is subcore `w`'s. -/
def partials (lat : S16384x128.Idx → Elt F .f32) (lab : S16384.Idx → Elt F .i32) (cen : S1000x128.Idx → Elt F .f32) : S32x16.Idx → Elt F .f32 :=
  fun x => total (chunks lat lab cen ⟨(x 0).val, (x 0).isLt⟩ 4) (ix1 ⟨(x 1).val, (x 1).isLt⟩)

end Cert.Proof.Value

end
-- ==== Proof.Setup.lean ====
/-
  The launch's set-up: the resource algebra, the cells of the subcore barrier and what they carry, the exchange each SparseCore's
  shared copy of the table goes through, and what the launch, the dispatch and the returns hand over.
-/
module

public import proofs.«01_k».proof.Defs
public import proofs.«01_k».proof.Proof.Ghost
public import proofs.«01_k».proof.Proof.Value
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch is on two cores. -/
theorem nCore_eq : (K (F := F)).nCore 0 = 2 := rfl
/-- It is on sixteen subcores of each. -/
theorem nSub_eq : (K (F := F)).nSub 0 = 16 := rfl
/-- The SparseCore of the call's core number `c`. -/
abbrev coreOf (c : Fin ((K (F := F)).nCore 0)) : Fin τ.nSC := (K (F := F)).core 0 c
/-- The subcore of the call's task number `i`. -/
abbrev subOf (i : Fin ((K (F := F)).nSub 0)) : Fin τ.nSub := (K (F := F)).sub 0 i

/-- The side conditions that the launch rule asks of the configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes, the barrier cells, the write mode, the transfers' counters -/

abbrev UH : Type := URounds (GSem nD τ sig) ℕ
abbrev UB : Type := URounds (GSem nD τ sig) ℕ
abbrev UW (F : FTy → Type) : Type := WmRA nD τ sig (Elt F)
abbrev UU (F : FTy → Type) : Type := UH × (UB × (UW F × Counters))

local notation "𝕄" => MT nD τ sig (HIx 1) (Elt F) ℕ (UU F) ℕ

abbrev EH : Emb UH (MT nD τ sig (HIx 1) (Elt F) ℕ (UU F) ℕ) := embL
/-- The barrier cells' rounds library. -/
def EB : Emb UB (MT nD τ sig (HIx 1) (Elt F) ℕ (UU F) ℕ) :=
  ((Emb.inl : Emb UB (UB × (UW F × Counters))).trans (Emb.inr : Emb (UB × (UW F × Counters)) (UU F))).trans
    (uEmb (nD := nD) (sig := sig) (Ix := HIx 1) (Val := Elt F) (Name := ℕ) (U := UU F) (Lvl := ℕ)).toEmb
instance EB_landsIn : (EB (F := F)).LandsIn (upEmb : UEmb _ 𝕄) := by unfold EB; infer_instance
/-- The write mode's algebra among the components. -/
def EW : UEmb (UW F) (UU F) :=
  ((UEmb.inl : UEmb (UW F) (UW F × Counters)).trans (UEmb.inr : UEmb (UW F × Counters) (UB × (UW F × Counters)))).trans
    (UEmb.inr : UEmb (UB × (UW F × Counters)) (UU F))

/-! ## The arrays and the buffers -/

variable (m : (ℓ : Loc nD τ sig) → Buf (Elt F) ℓ) (ρ : Dev nD → PrngReg)

abbrev latLoc (d : Dev nD) : Loc nD τ sig := (SparseCore.T d).loc main_arg0
abbrev labLoc (d : Dev nD) : Loc nD τ sig := (SparseCore.T d).loc main_arg1
abbrev cenLoc (d : Dev nD) : Loc nD τ sig := (SparseCore.T d).loc main_arg2
abbrev oLoc (d : Dev nD) : Loc nD τ sig := (SparseCore.T d).loc main_v0

/-- SparseCore `c`'s shared memory buffer, the one every subcore of it addresses. -/
abbrev shRef (c : Fin τ.nSC) : DevRef τ sig := ⟨.shared, ⟨0, by decide⟩, c⟩
abbrev shLoc (d : Dev nD) (c : Fin τ.nSC) : Loc nD τ sig := (d, shRef c)

/-- The table, as the contents of a SparseCore's shared buffer. -/
def tbl (d : Dev nD) (c : Fin τ.nSC) : Buf (Elt F) (shLoc d c) := m (cenLoc d)

/-- The result divides into 32 rows. -/
theorem hdiv : 32 ∣ S32x16.size 0 := ⟨1, rfl⟩
/-- The number of task `i` of core `c`. -/
def wid (c : Fin 2) (i : Fin 16) : Fin 32 := ⟨2 * i.val + c.val, by omega⟩
/-- Row `w` of the result. -/
abbrev oRow (w : Fin 32) : Rect S32x16 := Rect.part (s := S32x16) (a₀ := 0) hdiv w
abbrev oSet (w : Fin 32) : Finset S32x16.Idx := ((Memref.whole main_v0_scv : Memref sig .scVector .hbm S32x16 .f32).view.slice (oRow w)).set

/-- The rows of the table task `i` copies into the shared buffer: 64, the last task's as far down as they fit. -/
def stageSet (i : Fin 16) : Finset S1000x128.Idx := Finset.univ.filter fun x => min (64 * i.val) 936 ≤ (x 0).val ∧ (x 0).val < min (64 * i.val) 936 + 64

/-- Every row is some task's. -/
theorem stageSet_cover (x : S1000x128.Idx) : ∃ i, x ∈ stageSet i := by
  have hx : (x 0).val < 1000 := (x 0).isLt
  simp only [stageSet, Finset.mem_filter, Finset.mem_univ, true_and]
  by_cases h : (x 0).val < 936
  · exact ⟨⟨(x 0).val / 64, by omega⟩, by simp only []; omega, by simp only []; omega⟩
  · exact ⟨15, by show min (64 * 15) 936 ≤ _; omega, by show _ < min (64 * 15) 936 + 64; omega⟩

variable [FloatOps F]

/-- What the call leaves in its result. -/
def outV (d : Dev nD) : Buf (Elt F) (oLoc d) := partials (m (latLoc d)) (m (labLoc d)) (m (cenLoc d))

/-! ## The barrier cells -/

/-- The gate of subcore `(c, j)`: the barrier semaphore it waits on. -/
abbrev gateAt (d : Dev nD) (c : Fin τ.nSC) (j : Fin τ.nSub) : GSem nD τ sig := (V d c j, .reg sc_bar0)

/-- A gate is no semaphore of the dispatch. -/
theorem gate_apart : (sc_bar0 : Sem sig) ≠ (K (F := F)).go := show sc_bar0 ≠ sc_go by decide

/-- Party `i`'s token for party `j` of a SparseCore's exchange. -/
abbrev xtok (d : Dev nD) (c : Fin τ.nSC) (i j : Fin 16) : sProp 𝕄 := dutyTok EB (gateAt d c j) 1 i.val
/-- Party `i`'s deposit token. -/
abbrev xdep (d : Dev nD) (c : Fin τ.nSC) (i : Fin 16) : sProp 𝕄 := dutyTok EB (gateAt d c i) 2 0

/-- What passes a gate: one round of sixteen units, number `n` brought by subcore `n` of the SparseCore together with its exchange
    token for the gate's owner. -/
def gateRd : Rounds.Schedule (GSem nD τ sig) ℕ 𝕄 where
  duties _ r := if r = 0 then Finset.range 16 else ∅
  amount _ _ _ := 1
  payload g _ n := dutyTok EB g 1 n
  amount_pos _ _ _ _ := Nat.one_pos

/-- A token may pass a gate. -/
instance gateRd_storable (g : GSem nD τ sig) (r n : ℕ) : BI.Storable (upEmb : UEmb _ 𝕄) ((gateRd (F := F)).payload g r n) := by
  show BI.Storable (upEmb : UEmb _ 𝕄) (dutyTok EB g 1 n)
  infer_instance

/-- The units of the first round are the subcores' numbers. -/
theorem gateRd_first (g : GSem nD τ sig) : (gateRd (F := F)).duties g 0 = (Finset.univ : Finset (Fin 16)).image Fin.val :=
  show Finset.range 16 = _ by decide

/-- Every subcore brings one. -/
theorem gateRd_comer (g : GSem nD τ sig) (i : Fin 16) : i.val ∈ (gateRd (F := F)).duties g 0 := Finset.mem_range.2 i.isLt

/-- There is no second round. -/
theorem gateRd_over (g : GSem nD τ sig) (r : ℕ) (hr : 1 ≤ r) : (gateRd (F := F)).duties g r = ∅ := by
  obtain ⟨n, rfl⟩ := Nat.exists_eq_add_of_le' hr
  rfl

/-- Sixteen units make the round. -/
theorem gateRd_units (g : GSem nD τ sig) : 0 + grid0.bound 1 = (gateRd (F := F)).expect g 0 :=
  show 0 + 16 = ∑ _ ∈ Finset.range 16, 1 by decide

/-- What a subcore of SparseCore `c` owes at the barrier: a unit at every gate of its SparseCore, at the call's index. -/
def gateDues (d : Dev nD) (c : Fin τ.nSC) : CellTallies nD τ sig (HIx 1) := ∑ j : Fin (grid0.bound 1), tallyAt (gateAt d c (j.castLE hsub0)) (some 0) 1

/-- It owes nothing elsewhere, and nothing at another index. -/
theorem gateDues_where {d : Dev nD} {c : Fin τ.nSC} {g : GSem nD τ sig} {ι : HIx 1} (h : gateDues d c g ι ≠ 0) :
    ι = some 0 ∧ ∃ j : Fin (grid0.bound 1), g = gateAt d c (j.castLE hsub0) := by
  by_contra hn
  refine h ?_
  unfold gateDues
  rw [Finset.sum_apply, Finsupp.finsetSum_apply, Finset.sum_eq_zero]
  intro j _
  rw [tallyAt_apply]
  exact if_neg fun e => hn ⟨e.2, j, e.1⟩

/-! ## The exchange -/

/-- What task `i` deposits: its write share of the shared buffer, its rows written. -/
def xW (d : Dev nD) (c : Fin τ.nSC) (i : Fin 16) : sProp 𝕄 := wshare EW (shLoc d c) (tbl m d c) (leaf 4 fullShare i) (stageSet i)
/-- What task `j` takes: a read share of the shared buffer, which holds the table. -/
def xR (d : Dev nD) (c : Fin τ.nSC) (j : Fin 16) : sProp 𝕄 := shLoc d c ↦[Finset.univ]{leaf 4 fullShare j} tbl m d c
/-- SparseCore `c`'s exchange. -/
def xchg (d : Dev nD) (c : Fin τ.nSC) : sProp 𝕄 := exch (xtok d c) (xdep d c) (xW m d c) (xR m d c)

/-- What a subcore is given of it: the write mode's invariant, the exchange's, and its own deposit token. -/
def xkit (d : Dev nD) (c : Fin τ.nSC) (i : Fin 16) : sProp 𝕄 :=
  iprop((∃ ιw ιx : ℕ, ⌜ιx ≠ ιw⌝ ∗ wmInv EW ιw ∗ inv ιx (xchg m d c)) ∗ xdep d c i)

/-! ## What a subcore is given for the barrier -/

/-- What subcore `(c, i)` comes to the barrier with: its place at its own gate and the credit for the sixteen units there; and, for
    every gate of its SparseCore, the unit it brings, that the gate's round has begun, and the gate's invariant. -/
def gateKit (d : Dev nD) (c : Fin τ.nSC) (i : Fin τ.nSub) : sProp 𝕄 :=
  iprop(atPos EB (gateAt d c i) 0 ∅ 0 ∗ cred (tallyAt (gateAt d c i) (some 0) (grid0.bound 1))
    ∗ (bigSep Finset.univ fun j : Fin (grid0.bound 1) => dutyTok EB (gateAt d c (j.castLE hsub0)) 0 i.val)
    ∗ (bigSep Finset.univ fun j : Fin (grid0.bound 1) => reached EB (gateAt d c (j.castLE hsub0)) 0)
    ∗ ∃ κ : GSem nD τ sig → ℕ, bigSep Finset.univ fun j : Fin (grid0.bound 1) =>
        cellInv EB (gateRd (F := F)) (κ (gateAt d c (j.castLE hsub0))) (gateAt d c (j.castLE hsub0)))

/-! ## What the handshakes carry -/

/-- Core `c`'s read share of an argument. -/
abbrev qC (c : Fin ((K (F := F)).nCore 0)) : PosShare TreeShare := leaf 1 fullShare (c : Fin 2)
/-- Task `i` of core `c`'s read share of an argument. -/
abbrev qT (c : Fin ((K (F := F)).nCore 0)) (i : Fin ((K (F := F)).nSub 0)) : PosShare TreeShare := leaf 4 (qC c) (i : Fin 16)

/-- The three arguments at a share. -/
abbrev args (d : Dev nD) (q : PosShare TreeShare) : sProp 𝕄 :=
  iprop((latLoc d ↦[Finset.univ]{q} m (latLoc d)) ∗ (labLoc d ↦[Finset.univ]{q} m (labLoc d)) ∗ (cenLoc d ↦[Finset.univ]{q} m (cenLoc d)))
/-- Row `w` of the result at some contents of the array. -/
abbrev oPts (d : Dev nD) (w : Fin 32) (f : Buf (Elt F) (oLoc d)) : sProp 𝕄 := oLoc d ↦[oSet w]{fullShare} f
/-- The barrier semaphores of core `c`'s tasks, at zero. -/
abbrev bars (d : Dev nD) (c : Fin ((K (F := F)).nCore 0)) : sProp 𝕄 :=
  bigSep Finset.univ fun i : Fin ((K (F := F)).nSub 0) => semVal (gateAt d (coreOf c) (subOf i)) 0

set_option backward.proofsInPublic true in
/-- The call takes the arguments, a read share per core and of it a read share per task, and the result, a row per task; it
    brings them back, the rows at what the kernel computes, with the barrier semaphores at zero. A task moreover is handed a write share of
    its SparseCore's shared buffer, and brings back a read share of it at the table. -/
def P : (K (F := F)).Pay (nD := nD) (Val := Elt F) (Name := ℕ) (U := UU F) where
  st := fun q d c => match q with
    | 0 => iprop(args m d (qC c) ∗ bigSep Finset.univ fun i : Fin 16 => oPts d (wid c i) (m (oLoc d)))
  dn := fun q d c => match q with
    | 0 => iprop((args m d (qC c) ∗ bigSep Finset.univ fun i : Fin 16 => oPts d (wid c i) (outV m d)) ∗ bars d c)
  go := fun q d c i => match q with
    | 0 => iprop(args m d (qT c i) ∗ oPts d (wid c i) (m (oLoc d)) ∗ wshare EW (shLoc d (coreOf c)) (tbl m d (coreOf c)) (leaf 4 fullShare (i : Fin 16)) ∅)
  td := fun q d c i => match q with
    | 0 => iprop((args m d (qT c i) ∗ oPts d (wid c i) (outV m d) ∗ xR m d (coreOf c) i) ∗ semVal (gateAt d (coreOf c) (subOf i)) 0)
  x := fun _ thr => match thr with
    | (d, .scVector c i) => iprop(gateKit d c i ∗ xkit m d c i)
    | (_, .scScalar _) => iprop(∃ ιw : ℕ, wmInv EW ιw)
    | _ => iprop(emp)
  ox := fun _ thr => match thr with
    | (d, .scVector c _) => gateDues d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨rfl, j, rfl⟩ := gateDues_where (Nat.pos_iff_ne_zero.1 h)
      have hlev := (K (F := F)).lev_V_reg d c (j.castLE hsub0) gate_apart 0
      exact ⟨hlev.ge, by rw [hlev]; decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) iprop(args m d (qC c) ∗ bigSep Finset.univ fun i : Fin 16 => oPts d (wid c i) (m (oLoc d))))
  dn q d c := match q with
    | 0 => (inferInstance : BI.Storable (upEmb : UEmb _ 𝕄) iprop((args m d (qC c) ∗ bigSep Finset.univ fun i : Fin 16 => oPts d (wid c i) (outV m d)) ∗ bars d c))
  go q d c i := match q with
    | 0 => by
      show BI.Storable (upEmb : UEmb _ 𝕄) iprop(args m d (qT c i) ∗ oPts d (wid c i) (m (oLoc d)) ∗ wshare EW (shLoc d (coreOf c)) (tbl m d (coreOf c)) (leaf 4 fullShare (i : Fin 16)) ∅)
      unfold wshare willBeTo; infer_instance
  td q d c i := match q with
    | 0 => by
      show BI.Storable (upEmb : UEmb _ 𝕄) iprop((args m d (qT c i) ∗ oPts d (wid c i) (outV m d) ∗ xR m d (coreOf c) i) ∗ semVal (gateAt d (coreOf c) (subOf i)) 0)
      unfold xR; infer_instance

/-- The exchange may be kept in an invariant. -/
instance xchg_storable (d : Dev nD) (c : Fin τ.nSC) : BI.Storable (upEmb : UEmb _ 𝕄) (xchg m d c) := by
  unfold xchg exch xW xR wshare willBeTo; infer_instance

end Cert.Proof.Run

end
-- ==== Proof.Loops.lean ====
/-
  The four row loops: a trip loads its row of the two blocks, sixteen lanes at a time, and adds the squared differences to the eight
  accumulators; so 128 trips leave the accumulators of `Value.rows`.
-/
module

public import proofs.«01_k».proof.Proof.Setup
public import Idealize.ShloMosaic.Lib.ValueLayout
public import Idealize.ShloMosaic.Lib.Pipeline.ValueKit.Geometry

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

/-- The SparseCore, the subcore and the thread of a tile. -/
abbrev coreAt (L : grid0.Coords) : Fin τ.nSC := (L 0).castLE hcore0
abbrev tileAt (L : grid0.Coords) : Fin τ.nSub := (L 1).castLE hsub0
abbrev thr (d : Dev nD) (L : grid0.Coords) := V d (coreAt L) (tileAt L)

/-- A buffer of the subcore's own, whole. -/
abbrev own {shp : Shape} {ty : EltTy} (d : Dev nD) (L : grid0.Coords) (b : Memref sig .scVector .vmem shp ty) (f : Buf (Elt F) (b.view.loc (thr d L))) : sProp 𝕄 :=
  b.view.loc (thr d L) ↦[Finset.univ]{fullShare} f

/-- A load of sixteen lanes of a row, as a column group. -/
theorem seg_eq (f : Blk F) (r : Fin 128) (k : Fin 8) {off : Fin 2 → ℕ} (inb : ∀ a, off a + S1x16.size a ≤ S128x128.size a) (h : off = ![r.val, 16 * k.val])
    (hc : S1x16.ShapeCasts S16) : shapeCast S16 (fun x : S1x16.Idx => f ((Rect.unit (s := S128x128) off S1x16.size inb).toLoadRect.idx x)) hc = seg f r k := by
  subst h; funext l
  rw [ValueIdx.eq_ix1 l]
  refine (ValueIdx.shapeCast_1a_a_apply _ hc _).trans (congrArg f ?_)
  funext a
  refine Fin.ext ((ValueKit.rect_emb_unit_val _ _ _ _ a).trans ?_)
  match a with
  | 0 => rfl
  | 1 => rfl

/-- One accumulator's update of a row, over the sixteen lanes of the two blocks as they are loaded. -/
theorem step_eq (f g : Blk F) (A : Accs F) (r : Fin 128) (k : Fin 8) {off : Fin 2 → ℕ} (inb inb' : ∀ a, off a + S1x16.size a ≤ S128x128.size a)
    (h : off = ![r.val, 16 * k.val]) (hc hc' : S1x16.ShapeCasts S16) {v w : FVec F S16 .f32}
    (hv : v = shapeCast S16 (fun x : S1x16.Idx => f ((Rect.unit (s := S128x128) off S1x16.size inb).toLoadRect.idx x)) hc)
    (hw : w = shapeCast S16 (fun x : S1x16.Idx => g ((Rect.unit (s := S128x128) off S1x16.size inb').toLoadRect.idx x)) hc') :
    addf (A k) (mulf (subf v w) (subf v w)) = rowStep f g r A k := by
  rw [hv, hw, seg_eq f r k inb h, seg_eq g r k inb' h]; rfl

/-- A loop whose trip `r`, holding `R`, turns the accumulators by row `r` of two blocks leaves them turned by all 128 rows. -/
theorem loop_rows (d : Dev nD) (L : grid0.Coords) (f g : Blk F) (R : sProp 𝕄) (lb ub st : BitVec 32) (hok : Scf.OK lb ub st)
    (ht : Scf.trips lb ub st = 128) (body : Fin (Scf.trips lb ub st) → _ → Prog (TpuEff nD τ sig (Elt F) Λ₀ (.scVector (coreAt L) (tileAt L))) _)
    (hbody : ∀ r (hr : r.val < 128) (A : Accs F), R ⊢ wp frame (wpE (defs₀ (F := F)) 𝒱₀ (thr d L) none) Set.univ (body r (tup A))
      fun acc => iprop(⌜acc = tup (rowStep f g ⟨r.val, hr⟩ A)⌝ ∗ R))
    (A : Accs F) {β : Type} {kk : _ → Prog (TpuEff nD τ sig (Elt F) Λ₀ (.scVector (coreAt L) (tileAt L))) β} {Q : β → sProp 𝕄} :
    R ⊢ iprop((R -∗ wp frame (wpE (defs₀ (F := F)) 𝒱₀ (thr d L) none) Set.univ (kk (tup (rows f g 128 A))) Q)
      -∗ wp frame (wpE (defs₀ (F := F)) 𝒱₀ (thr d L) none) Set.univ (Scf.for lb ub st hok (tup A) body >>= kk) Q) := by
  iintro HR HK
  iapply (Scf.wp_for_bind frame (wpE (defs₀ (F := F)) 𝒱₀ (thr d L) none) Set.univ lb ub st hok (tup A) body
    (fun n acc => iprop(⌜acc = tup (rows f g n A)⌝ ∗ R)) (by
      intro r acc
      iintro ⟨%hacc, HR⟩
      subst hacc
      have hr : r.val < 128 := ht ▸ r.isLt
      have e : rows f g (r.val + 1) A = rowStep f g ⟨r.val, hr⟩ (rows f g r.val A) := dif_pos hr
      rw [e]
      iapply (SparseCore.ent (hbody r hr (rows f g r.val A)))
      iexact HR)) $$ [HR]
  · isplitr
    · ipureintro; rfl
    · iexact HR
  iintro %acc ⟨%hacc, HR⟩
  subst hacc
  rw [ht]
  iapply HK
  iexact HR

/-- A trip of the first loop. -/
theorem body1 (d : Dev nD) (L : grid0.Coords) (f g : Blk F) (A : Accs F) (r : Fin k0_t1_loop.trips) (hr : r.val < 128) (v1 : BitVec 32) (v17 v18 v19 : FVec F S16 .f32) :
    iprop(own d L (Memref.whole cc0_scratch4) f ∗ own d L (Memref.whole cc0_scratch7) g)
      ⊢ wp frame (wpE (defs₀ (F := F)) 𝒱₀ (thr d L) none) Set.univ
          (k0_t1_body L (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1 v1 v17 v18 v19 r (tup A))
          fun acc => iprop(⌜acc = tup (rowStep f g ⟨r.val, hr⟩ A)⌝ ∗ own d L (Memref.whole cc0_scratch4) f ∗ own d L (Memref.whole cc0_scratch7) g) := by
  unfold k0_t1_body
  simp only [tup, k0_part1_eq_skeleton]; unfold k0_part1_skel
  iintro ⟨Hf, Hg⟩
  sl_exec
  sl_step
  isplitr
  · ipureintro
    refine Prod.ext ?_ (Prod.ext ?_ (Prod.ext ?_ (Prod.ext ?_ (Prod.ext ?_ (Prod.ext ?_ (Prod.ext ?_ ?_))))))
    · exact step_eq f g A ⟨r.val, hr⟩ 0 _ _ (k0_off4_eq r) _ _ rfl rfl
    · exact step_eq f g A ⟨r.val, hr⟩ 1 _ _ (k0_off5_eq r) _ _ rfl rfl
    · exact step_eq f g A ⟨r.val, hr⟩ 2 _ _ (k0_off6_eq r) _ _ rfl rfl
    · exact step_eq f g A ⟨r.val, hr⟩ 3 _ _ (k0_off7_eq r) _ _ rfl rfl
    · exact step_eq f g A ⟨r.val, hr⟩ 4 _ _ (k0_off8_eq r) _ _ rfl rfl
    · exact step_eq f g A ⟨r.val, hr⟩ 5 _ _ (k0_off9_eq r) _ _ rfl rfl
    · exact step_eq f g A ⟨r.val, hr⟩ 6 _ _ (k0_off10_eq r) _ _ rfl rfl
    · exact step_eq f g A ⟨r.val, hr⟩ 7 _ _ (k0_off11_eq r) _ _ rfl rfl
  isplitl [Hf]; · iexact Hf
  iexact Hg

/-- The first loop. -/
theorem loop1 (d : Dev nD) (L : grid0.Coords) (f g : Blk F) (A : Accs F) (v1 : BitVec 32) (v17 v18 v19 : FVec F S16 .f32)
    {β : Type} {kk : _ → Prog (TpuEff nD τ sig (Elt F) Λ₀ (.scVector (coreAt L) (tileAt L))) β} {Q : β → sProp 𝕄} :
    iprop(own d L (Memref.whole cc0_scratch4) f ∗ own d L (Memref.whole cc0_scratch7) g)
      ⊢ iprop((iprop(own d L (Memref.whole cc0_scratch4) f ∗ own d L (Memref.whole cc0_scratch7) g)
          -∗ wp frame (wpE (defs₀ (F := F)) 𝒱₀ (thr d L) none) Set.univ (kk (tup (rows f g 128 A))) Q)
        -∗ wp frame (wpE (defs₀ (F := F)) 𝒱₀ (thr d L) none) Set.univ
          (Scf.Loop.for k0_t1_loop k0_t1_ok (tup A)
            (k0_t1_body L (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1 v1 v17 v18 v19) >>= kk) Q) :=
  loop_rows d L f g _ _ _ _ _ (by decide +kernel) _ (fun r hr A => body1 d L f g A r hr v1 v17 v18 v19) A

/-- A trip of the second loop. -/
theorem body2 (d : Dev nD) (L : grid0.Coords) (f g : Blk F) (A : Accs F) (r : Fin k0_t2_loop.trips) (hr : r.val < 128) (a0 a1 a2 a3 a4 a5 a6 a7 : FVec F S16 .f32) :
    iprop(own d L (Memref.whole cc0_scratch5) f ∗ own d L (Memref.whole cc0_scratch8) g)
      ⊢ wp frame (wpE (defs₀ (F := F)) 𝒱₀ (thr d L) none) Set.univ
          (k0_t2_body L (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1 a0 a1 a2 a3 a4 a5 a6 a7 r (tup A))
          fun acc => iprop(⌜acc = tup (rowStep f g ⟨r.val, hr⟩ A)⌝ ∗ own d L (Memref.whole cc0_scratch5) f ∗ own d L (Memref.whole cc0_scratch8) g) := by
  unfold k0_t2_body
  simp only [tup, k0_part2_eq_skeleton]; unfold k0_part2_skel
  iintro ⟨Hf, Hg⟩
  sl_exec
  sl_step
  isplitr
  · ipureintro
    refine Prod.ext ?_ (Prod.ext ?_ (Prod.ext ?_ (Prod.ext ?_ (Prod.ext ?_ (Prod.ext ?_ (Prod.ext ?_ ?_))))))
    · exact step_eq f g A ⟨r.val, hr⟩ 0 _ _ (k0_off12_eq r) _ _ rfl rfl
    · exact step_eq f g A ⟨r.val, hr⟩ 1 _ _ (k0_off13_eq r) _ _ rfl rfl
    · exact step_eq f g A ⟨r.val, hr⟩ 2 _ _ (k0_off14_eq r) _ _ rfl rfl
    · exact step_eq f g A ⟨r.val, hr⟩ 3 _ _ (k0_off15_eq r) _ _ rfl rfl
    · exact step_eq f g A ⟨r.val, hr⟩ 4 _ _ (k0_off16_eq r) _ _ rfl rfl
    · exact step_eq f g A ⟨r.val, hr⟩ 5 _ _ (k0_off17_eq r) _ _ rfl rfl
    · exact step_eq f g A ⟨r.val, hr⟩ 6 _ _ (k0_off18_eq r) _ _ rfl rfl
    · exact step_eq f g A ⟨r.val, hr⟩ 7 _ _ (k0_off19_eq r) _ _ rfl rfl
  isplitl [Hf]; · iexact Hf
  iexact Hg

/-- The second loop. -/
theorem loop2 (d : Dev nD) (L : grid0.Coords) (f g : Blk F) (A : Accs F) (a0 a1 a2 a3 a4 a5 a6 a7 : FVec F S16 .f32)
    {β : Type} {kk : _ → Prog (TpuEff nD τ sig (Elt F) Λ₀ (.scVector (coreAt L) (tileAt L))) β} {Q : β → sProp 𝕄} :
    iprop(own d L (Memref.whole cc0_scratch5) f ∗ own d L (Memref.whole cc0_scratch8) g)
      ⊢ iprop((iprop(own d L (Memref.whole cc0_scratch5) f ∗ own d L (Memref.whole cc0_scratch8) g)
          -∗ wp frame (wpE (defs₀ (F := F)) 𝒱₀ (thr d L) none) Set.univ (kk (tup (rows f g 128 A))) Q)
        -∗ wp frame (wpE (defs₀ (F := F)) 𝒱₀ (thr d L) none) Set.univ
          (Scf.Loop.for k0_t2_loop k0_t2_ok (tup A)
            (k0_t2_body L (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1 a0 a1 a2 a3 a4 a5 a6 a7) >>= kk) Q) :=
  loop_rows d L f g _ _ _ _ _ (by decide +kernel) _ (fun r hr A => body2 d L f g A r hr a0 a1 a2 a3 a4 a5 a6 a7) A

/-- A trip of the third loop. -/
theorem body3 (d : Dev nD) (L : grid0.Coords) (f g : Blk F) (A : Accs F) (r : Fin k0_t3_loop.trips) (hr : r.val < 128) (a0 a1 a2 a3 a4 a5 a6 a7 : FVec F S16 .f32) :
    iprop(own d L (Memref.whole cc0_scratch6) f ∗ own d L (Memref.whole cc0_scratch9) g)
      ⊢ wp frame (wpE (defs₀ (F := F)) 𝒱₀ (thr d L) none) Set.univ
          (k0_t3_body L (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1 a0 a1 a2 a3 a4 a5 a6 a7 r (tup A))
          fun acc => iprop(⌜acc = tup (rowStep f g ⟨r.val, hr⟩ A)⌝ ∗ own d L (Memref.whole cc0_scratch6) f ∗ own d L (Memref.whole cc0_scratch9) g) := by
  unfold k0_t3_body
  simp only [tup, k0_part3_eq_skeleton]; unfold k0_part3_skel
  iintro ⟨Hf, Hg⟩
  sl_exec
  sl_step
  isplitr
  · ipureintro
    refine Prod.ext ?_ (Prod.ext ?_ (Prod.ext ?_ (Prod.ext ?_ (Prod.ext ?_ (Prod.ext ?_ (Prod.ext ?_ ?_))))))
    · exact step_eq f g A ⟨r.val, hr⟩ 0 _ _ (k0_off20_eq r) _ _ rfl rfl
    · exact step_eq f g A ⟨r.val, hr⟩ 1 _ _ (k0_off21_eq r) _ _ rfl rfl
    · exact step_eq f g A ⟨r.val, hr⟩ 2 _ _ (k0_off22_eq r) _ _ rfl rfl
    · exact step_eq f g A ⟨r.val, hr⟩ 3 _ _ (k0_off23_eq r) _ _ rfl rfl
    · exact step_eq f g A ⟨r.val, hr⟩ 4 _ _ (k0_off24_eq r) _ _ rfl rfl
    · exact step_eq f g A ⟨r.val, hr⟩ 5 _ _ (k0_off25_eq r) _ _ rfl rfl
    · exact step_eq f g A ⟨r.val, hr⟩ 6 _ _ (k0_off26_eq r) _ _ rfl rfl
    · exact step_eq f g A ⟨r.val, hr⟩ 7 _ _ (k0_off27_eq r) _ _ rfl rfl
  isplitl [Hf]; · iexact Hf
  iexact Hg

/-- The third loop. -/
theorem loop3 (d : Dev nD) (L : grid0.Coords) (f g : Blk F) (A : Accs F) (a0 a1 a2 a3 a4 a5 a6 a7 : FVec F S16 .f32)
    {β : Type} {kk : _ → Prog (TpuEff nD τ sig (Elt F) Λ₀ (.scVector (coreAt L) (tileAt L))) β} {Q : β → sProp 𝕄} :
    iprop(own d L (Memref.whole cc0_scratch6) f ∗ own d L (Memref.whole cc0_scratch9) g)
      ⊢ iprop((iprop(own d L (Memref.whole cc0_scratch6) f ∗ own d L (Memref.whole cc0_scratch9) g)
          -∗ wp frame (wpE (defs₀ (F := F)) 𝒱₀ (thr d L) none) Set.univ (kk (tup (rows f g 128 A))) Q)
        -∗ wp frame (wpE (defs₀ (F := F)) 𝒱₀ (thr d L) none) Set.univ
          (Scf.Loop.for k0_t3_loop k0_t3_ok (tup A)
            (k0_t3_body L (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1 a0 a1 a2 a3 a4 a5 a6 a7) >>= kk) Q) :=
  loop_rows d L f g _ _ _ _ _ (by decide +kernel) _ (fun r hr A => body3 d L f g A r hr a0 a1 a2 a3 a4 a5 a6 a7) A

/-- A trip of the fourth loop. -/
theorem body4 (d : Dev nD) (L : grid0.Coords) (f g : Blk F) (A : Accs F) (r : Fin k0_t4_loop.trips) (hr : r.val < 128) (a0 a1 a2 a3 a4 a5 a6 a7 : FVec F S16 .f32) :
    iprop(own d L (Memref.whole cc0_scratch4) f ∗ own d L (Memref.whole cc0_scratch7) g)
      ⊢ wp frame (wpE (defs₀ (F := F)) 𝒱₀ (thr d L) none) Set.univ
          (k0_t4_body L (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1 a0 a1 a2 a3 a4 a5 a6 a7 r (tup A))
          fun acc => iprop(⌜acc = tup (rowStep f g ⟨r.val, hr⟩ A)⌝ ∗ own d L (Memref.whole cc0_scratch4) f ∗ own d L (Memref.whole cc0_scratch7) g) := by
  unfold k0_t4_body
  simp only [tup, k0_part4_eq_skeleton]; unfold k0_part4_skel
  iintro ⟨Hf, Hg⟩
  sl_exec
  sl_step
  isplitr
  · ipureintro
    refine Prod.ext ?_ (Prod.ext ?_ (Prod.ext ?_ (Prod.ext ?_ (Prod.ext ?_ (Prod.ext ?_ (Prod.ext ?_ ?_))))))
    · exact step_eq f g A ⟨r.val, hr⟩ 0 _ _ (k0_off28_eq r) _ _ rfl rfl
    · exact step_eq f g A ⟨r.val, hr⟩ 1 _ _ (k0_off29_eq r) _ _ rfl rfl
    · exact step_eq f g A ⟨r.val, hr⟩ 2 _ _ (k0_off30_eq r) _ _ rfl rfl
    · exact step_eq f g A ⟨r.val, hr⟩ 3 _ _ (k0_off31_eq r) _ _ rfl rfl
    · exact step_eq f g A ⟨r.val, hr⟩ 4 _ _ (k0_off32_eq r) _ _ rfl rfl
    · exact step_eq f g A ⟨r.val, hr⟩ 5 _ _ (k0_off33_eq r) _ _ rfl rfl
    · exact step_eq f g A ⟨r.val, hr⟩ 6 _ _ (k0_off34_eq r) _ _ rfl rfl
    · exact step_eq f g A ⟨r.val, hr⟩ 7 _ _ (k0_off35_eq r) _ _ rfl rfl
  isplitl [Hf]; · iexact Hf
  iexact Hg

/-- The fourth loop. -/
theorem loop4 (d : Dev nD) (L : grid0.Coords) (f g : Blk F) (A : Accs F) (a0 a1 a2 a3 a4 a5 a6 a7 : FVec F S16 .f32)
    {β : Type} {kk : _ → Prog (TpuEff nD τ sig (Elt F) Λ₀ (.scVector (coreAt L) (tileAt L))) β} {Q : β → sProp 𝕄} :
    iprop(own d L (Memref.whole cc0_scratch4) f ∗ own d L (Memref.whole cc0_scratch7) g)
      ⊢ iprop((iprop(own d L (Memref.whole cc0_scratch4) f ∗ own d L (Memref.whole cc0_scratch7) g)
          -∗ wp frame (wpE (defs₀ (F := F)) 𝒱₀ (thr d L) none) Set.univ (kk (tup (rows f g 128 A))) Q)
        -∗ wp frame (wpE (defs₀ (F := F)) 𝒱₀ (thr d L) none) Set.univ
          (Scf.Loop.for k0_t4_loop k0_t4_ok (tup A)
            (k0_t4_body L (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1 a0 a1 a2 a3 a4 a5 a6 a7) >>= kk) Q) :=
  loop_rows d L f g _ _ _ _ _ (by decide +kernel) _ (fun r hr A => body4 d L f g A r hr a0 a1 a2 a3 a4 a5 a6 a7) A

end Cert.Proof.Run

end
-- ==== Proof.Own.lean ====
/-
  A vector subcore's own buffers and semaphores, taken out of what the launch deals it.
-/
module

public import proofs.«01_k».proof.Proof.Loops

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

/-- A DMA semaphore of a tile. -/
abbrev dcell (d : Dev nD) (L : grid0.Coords) (s : DmaSems sig S_) : GSem nD τ sig := (thr d L, .dma s.sem)
/-- A buffer of a tile, as the device addresses it. -/
abbrev dref (L : grid0.Coords) (b : Ref sig .scVector) : DevRef τ sig := (Proc.scVector (coreAt L) (tileAt L)).devRef b

/-- A scoped DMA semaphore's cell is its subcore's own. -/
theorem mem_dcell (d : Dev nD) (L : grid0.Coords) (s : DmaSems sig S_) (h : (SemLoc.dma s.sem : SemLoc sig).isScoped .scVector = true) :
    dcell d L s ∈ ownCells (thr d L) := (mem_ownCells (g := dcell d L s)).mpr ⟨rfl, h⟩
/-- Different DMA semaphores have different cells. -/
theorem dcell_ne (d : Dev nD) (L : grid0.Coords) (s s' : DmaSems sig S_) (h : (SemLoc.dma s.sem : SemLoc sig) ≠ .dma s'.sem) : dcell d L s ≠ dcell d L s' :=
  fun e => h (congrArg Prod.snd e)
/-- Different references of a subcore name different buffers. -/
theorem dref_ne (L : grid0.Coords) (b b' : Ref sig .scVector) (h : b ≠ b') : dref L b ≠ dref L b' :=
  fun e => h ((Proc.scVector (coreAt L) (tileAt L)).devRef_injective e)

/-- The semaphores of a tile's own the kernel does not use. -/
def restSems (d : Dev nD) (L : grid0.Coords) : Finset (GSem nD τ sig) :=
  ((((((((((ownCells (thr d L)).erase (dcell d L cc0_scratch3)).erase (dcell d L cc0_scratch10)).erase (dcell d L cc0_scratch11)).erase (dcell d L cc0_scratch12)).erase (dcell d L cc0_scratch13)).erase (dcell d L cc0_scratch14)).erase (dcell d L cc0_scratch15)).erase (dcell d L cc0_scoped0)).erase (dcell d L cc0_scoped1))
/-- The buffers of a tile's own the kernel does not use. -/
def restBufs (L : grid0.Coords) : Finset (DevRef τ sig) :=
  (((((((((ownRefs (τ := τ) (Proc.scVector (coreAt L) (tileAt L))).erase (dref L cc0_scratch0)).erase (dref L cc0_scratch1)).erase (dref L cc0_scratch4)).erase (dref L cc0_scratch5)).erase (dref L cc0_scratch6)).erase (dref L cc0_scratch7)).erase (dref L cc0_scratch8)).erase (dref L cc0_scratch9))

/-- A tile's own semaphores at zero are the nine the kernel uses and the rest. -/
theorem ownSems0_V (d : Dev nD) (L : grid0.Coords) :
    (ownSems0 (thr d L) : sProp 𝕄)
      = iprop(semVal (dcell d L cc0_scratch3) 0 ∗ semVal (dcell d L cc0_scratch10) 0 ∗ semVal (dcell d L cc0_scratch11) 0 ∗ semVal (dcell d L cc0_scratch12) 0 ∗ semVal (dcell d L cc0_scratch13) 0 ∗ semVal (dcell d L cc0_scratch14) 0 ∗ semVal (dcell d L cc0_scratch15) 0 ∗ semVal (dcell d L cc0_scoped0) 0 ∗ semVal (dcell d L cc0_scoped1) 0
          ∗ bigSep (restSems d L) fun g => semVal g 0) := by
  unfold SparseCore.Cfg.ownSems0 restSems
  rw [SparseCore.bigSep_erase' (mem_dcell d L cc0_scratch3 (by decide)),
    SparseCore.bigSep_erase' (Finset.mem_erase.mpr ⟨dcell_ne d L cc0_scratch10 cc0_scratch3 (by decide), (mem_dcell d L cc0_scratch10 (by decide))⟩),
    SparseCore.bigSep_erase' (Finset.mem_erase.mpr ⟨dcell_ne d L cc0_scratch11 cc0_scratch10 (by decide), (Finset.mem_erase.mpr ⟨dcell_ne d L cc0_scratch11 cc0_scratch3 (by decide), (mem_dcell d L cc0_scratch11 (by decide))⟩)⟩),
    SparseCore.bigSep_erase' (Finset.mem_erase.mpr ⟨dcell_ne d L cc0_scratch12 cc0_scratch11 (by decide), (Finset.mem_erase.mpr ⟨dcell_ne d L cc0_scratch12 cc0_scratch10 (by decide), (Finset.mem_erase.mpr ⟨dcell_ne d L cc0_scratch12 cc0_scratch3 (by decide), (mem_dcell d L cc0_scratch12 (by decide))⟩)⟩)⟩),
    SparseCore.bigSep_erase' (Finset.mem_erase.mpr ⟨dcell_ne d L cc0_scratch13 cc0_scratch12 (by decide), (Finset.mem_erase.mpr ⟨dcell_ne d L cc0_scratch13 cc0_scratch11 (by decide), (Finset.mem_erase.mpr ⟨dcell_ne d L cc0_scratch13 cc0_scratch10 (by decide), (Finset.mem_erase.mpr ⟨dcell_ne d L cc0_scratch13 cc0_scratch3 (by decide), (mem_dcell d L cc0_scratch13 (by decide))⟩)⟩)⟩)⟩),
    SparseCore.bigSep_erase' (Finset.mem_erase.mpr ⟨dcell_ne d L cc0_scratch14 cc0_scratch13 (by decide), (Finset.mem_erase.mpr ⟨dcell_ne d L cc0_scratch14 cc0_scratch12 (by decide), (Finset.mem_erase.mpr ⟨dcell_ne d L cc0_scratch14 cc0_scratch11 (by decide), (Finset.mem_erase.mpr ⟨dcell_ne d L cc0_scratch14 cc0_scratch10 (by decide), (Finset.mem_erase.mpr ⟨dcell_ne d L cc0_scratch14 cc0_scratch3 (by decide), (mem_dcell d L cc0_scratch14 (by decide))⟩)⟩)⟩)⟩)⟩),
    SparseCore.bigSep_erase' (Finset.mem_erase.mpr ⟨dcell_ne d L cc0_scratch15 cc0_scratch14 (by decide), (Finset.mem_erase.mpr ⟨dcell_ne d L cc0_scratch15 cc0_scratch13 (by decide), (Finset.mem_erase.mpr ⟨dcell_ne d L cc0_scratch15 cc0_scratch12 (by decide), (Finset.mem_erase.mpr ⟨dcell_ne d L cc0_scratch15 cc0_scratch11 (by decide), (Finset.mem_erase.mpr ⟨dcell_ne d L cc0_scratch15 cc0_scratch10 (by decide), (Finset.mem_erase.mpr ⟨dcell_ne d L cc0_scratch15 cc0_scratch3 (by decide), (mem_dcell d L cc0_scratch15 (by decide))⟩)⟩)⟩)⟩)⟩)⟩),
    SparseCore.bigSep_erase' (Finset.mem_erase.mpr ⟨dcell_ne d L cc0_scoped0 cc0_scratch15 (by decide), (Finset.mem_erase.mpr ⟨dcell_ne d L cc0_scoped0 cc0_scratch14 (by decide), (Finset.mem_erase.mpr ⟨dcell_ne d L cc0_scoped0 cc0_scratch13 (by decide), (Finset.mem_erase.mpr ⟨dcell_ne d L cc0_scoped0 cc0_scratch12 (by decide), (Finset.mem_erase.mpr ⟨dcell_ne d L cc0_scoped0 cc0_scratch11 (by decide), (Finset.mem_erase.mpr ⟨dcell_ne d L cc0_scoped0 cc0_scratch10 (by decide), (Finset.mem_erase.mpr ⟨dcell_ne d L cc0_scoped0 cc0_scratch3 (by decide), (mem_dcell d L cc0_scoped0 (by decide))⟩)⟩)⟩)⟩)⟩)⟩)⟩),
    SparseCore.bigSep_erase' (Finset.mem_erase.mpr ⟨dcell_ne d L cc0_scoped1 cc0_scoped0 (by decide), (Finset.mem_erase.mpr ⟨dcell_ne d L cc0_scoped1 cc0_scratch15 (by decide), (Finset.mem_erase.mpr ⟨dcell_ne d L cc0_scoped1 cc0_scratch14 (by decide), (Finset.mem_erase.mpr ⟨dcell_ne d L cc0_scoped1 cc0_scratch13 (by decide), (Finset.mem_erase.mpr ⟨dcell_ne d L cc0_scoped1 cc0_scratch12 (by decide), (Finset.mem_erase.mpr ⟨dcell_ne d L cc0_scoped1 cc0_scratch11 (by decide), (Finset.mem_erase.mpr ⟨dcell_ne d L cc0_scoped1 cc0_scratch10 (by decide), (Finset.mem_erase.mpr ⟨dcell_ne d L cc0_scoped1 cc0_scratch3 (by decide), (mem_dcell d L cc0_scoped1 (by decide))⟩)⟩)⟩)⟩)⟩)⟩)⟩)⟩)]

/-- A tile's own buffers are the eight the kernel uses, each at some contents, and the rest. -/
theorem ownBufs_V (d : Dev nD) (L : grid0.Coords) :
    (ownBufs (thr d L) : sProp 𝕄)
      = iprop((∃ f, own d L (Memref.whole cc0_scratch0) f) ∗ (∃ f, own d L (Memref.whole cc0_scratch1) f) ∗ (∃ f, own d L (Memref.whole cc0_scratch4) f) ∗ (∃ f, own d L (Memref.whole cc0_scratch5) f) ∗ (∃ f, own d L (Memref.whole cc0_scratch6) f) ∗ (∃ f, own d L (Memref.whole cc0_scratch7) f) ∗ (∃ f, own d L (Memref.whole cc0_scratch8) f) ∗ (∃ f, own d L (Memref.whole cc0_scratch9) f)
          ∗ bigSep (restBufs L) fun b => iprop(∃ f, ((d, b) : Loc nD τ sig) ↦{fullShare} f)) := by
  unfold SparseCore.Cfg.ownBufs restBufs
  rw [SparseCore.bigSep_erase' (SparseCore.Cfg.mem_ownRefs_of_owner (p := Proc.scVector (coreAt L) (tileAt L)) (b := dref L cc0_scratch0) rfl),
    SparseCore.bigSep_erase' (Finset.mem_erase.mpr ⟨dref_ne L cc0_scratch1 cc0_scratch0 (by decide), (SparseCore.Cfg.mem_ownRefs_of_owner (p := Proc.scVector (coreAt L) (tileAt L)) (b := dref L cc0_scratch1) rfl)⟩),
    SparseCore.bigSep_erase' (Finset.mem_erase.mpr ⟨dref_ne L cc0_scratch4 cc0_scratch1 (by decide), (Finset.mem_erase.mpr ⟨dref_ne L cc0_scratch4 cc0_scratch0 (by decide), (SparseCore.Cfg.mem_ownRefs_of_owner (p := Proc.scVector (coreAt L) (tileAt L)) (b := dref L cc0_scratch4) rfl)⟩)⟩),
    SparseCore.bigSep_erase' (Finset.mem_erase.mpr ⟨dref_ne L cc0_scratch5 cc0_scratch4 (by decide), (Finset.mem_erase.mpr ⟨dref_ne L cc0_scratch5 cc0_scratch1 (by decide), (Finset.mem_erase.mpr ⟨dref_ne L cc0_scratch5 cc0_scratch0 (by decide), (SparseCore.Cfg.mem_ownRefs_of_owner (p := Proc.scVector (coreAt L) (tileAt L)) (b := dref L cc0_scratch5) rfl)⟩)⟩)⟩),
    SparseCore.bigSep_erase' (Finset.mem_erase.mpr ⟨dref_ne L cc0_scratch6 cc0_scratch5 (by decide), (Finset.mem_erase.mpr ⟨dref_ne L cc0_scratch6 cc0_scratch4 (by decide), (Finset.mem_erase.mpr ⟨dref_ne L cc0_scratch6 cc0_scratch1 (by decide), (Finset.mem_erase.mpr ⟨dref_ne L cc0_scratch6 cc0_scratch0 (by decide), (SparseCore.Cfg.mem_ownRefs_of_owner (p := Proc.scVector (coreAt L) (tileAt L)) (b := dref L cc0_scratch6) rfl)⟩)⟩)⟩)⟩),
    SparseCore.bigSep_erase' (Finset.mem_erase.mpr ⟨dref_ne L cc0_scratch7 cc0_scratch6 (by decide), (Finset.mem_erase.mpr ⟨dref_ne L cc0_scratch7 cc0_scratch5 (by decide), (Finset.mem_erase.mpr ⟨dref_ne L cc0_scratch7 cc0_scratch4 (by decide), (Finset.mem_erase.mpr ⟨dref_ne L cc0_scratch7 cc0_scratch1 (by decide), (Finset.mem_erase.mpr ⟨dref_ne L cc0_scratch7 cc0_scratch0 (by decide), (SparseCore.Cfg.mem_ownRefs_of_owner (p := Proc.scVector (coreAt L) (tileAt L)) (b := dref L cc0_scratch7) rfl)⟩)⟩)⟩)⟩)⟩),
    SparseCore.bigSep_erase' (Finset.mem_erase.mpr ⟨dref_ne L cc0_scratch8 cc0_scratch7 (by decide), (Finset.mem_erase.mpr ⟨dref_ne L cc0_scratch8 cc0_scratch6 (by decide), (Finset.mem_erase.mpr ⟨dref_ne L cc0_scratch8 cc0_scratch5 (by decide), (Finset.mem_erase.mpr ⟨dref_ne L cc0_scratch8 cc0_scratch4 (by decide), (Finset.mem_erase.mpr ⟨dref_ne L cc0_scratch8 cc0_scratch1 (by decide), (Finset.mem_erase.mpr ⟨dref_ne L cc0_scratch8 cc0_scratch0 (by decide), (SparseCore.Cfg.mem_ownRefs_of_owner (p := Proc.scVector (coreAt L) (tileAt L)) (b := dref L cc0_scratch8) rfl)⟩)⟩)⟩)⟩)⟩)⟩),
    SparseCore.bigSep_erase' (Finset.mem_erase.mpr ⟨dref_ne L cc0_scratch9 cc0_scratch8 (by decide), (Finset.mem_erase.mpr ⟨dref_ne L cc0_scratch9 cc0_scratch7 (by decide), (Finset.mem_erase.mpr ⟨dref_ne L cc0_scratch9 cc0_scratch6 (by decide), (Finset.mem_erase.mpr ⟨dref_ne L cc0_scratch9 cc0_scratch5 (by decide), (Finset.mem_erase.mpr ⟨dref_ne L cc0_scratch9 cc0_scratch4 (by decide), (Finset.mem_erase.mpr ⟨dref_ne L cc0_scratch9 cc0_scratch1 (by decide), (Finset.mem_erase.mpr ⟨dref_ne L cc0_scratch9 cc0_scratch0 (by decide), (SparseCore.Cfg.mem_ownRefs_of_owner (p := Proc.scVector (coreAt L) (tileAt L)) (b := dref L cc0_scratch9) rfl)⟩)⟩)⟩)⟩)⟩)⟩)⟩)]

end Cert.Proof.Run

end
-- ==== Proof.Views.lean ====
/-
  What the copies read, element by element: the rows of `latent` a tile fills a buffer with, its labels, the rows of the table its
  labels name, and the elements its stage copy and its result copy write.
-/
module

public import proofs.«01_k».proof.Proof.Own

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

/-- The tile's number. -/
abbrev tw (L : grid0.Coords) : Fin 32 := wid ⟨(L 0).val, (L 0).isLt⟩ ⟨(L 1).val, (L 1).isLt⟩

/-- A fill's source: 128 rows of `latent`. -/
theorem read_lat (L : grid0.Coords) (lat : S16384x128.Idx → Elt F .f32) (j : Fin 4) (b : BitVec 32) (hb : b = BitVec.ofNat 32 (128 * j.val))
    (inb : ∀ a, k0_off1 L b a + S128x128.size a ≤ S16384x128.size a) :
    ((Memref.whole main_arg0_scv).slice (Rect.unit (s := S16384x128) (k0_off1 L b) S128x128.size inb) (fun _ => rfl)).view.read (Elt F) lat
      = latBlk lat (tw L) j := by
  subst hb
  funext x
  refine congrArg lat (funext fun a => Fin.ext ?_)
  refine (ValueKit.view_emb_slice_whole_unit_val main_arg0_scv _ _ _ x a).trans ?_
  rw [congrFun (k0_off1_eq L j) a]
  match a with
  | 0 => show 1024 * (L 1).val + 512 * (L 0).val + 128 * j.val + (x 0).val = 512 * (2 * (L 1).val + (L 0).val) + 128 * j.val + (x 0).val; omega
  | 1 => show 0 + (x 1).val = (x 1).val; omega

/-- The tile's labels. -/
theorem read_lab (L : grid0.Coords) (lab : S16384.Idx → Elt F .i32) (inb : ∀ a, k0_off2 L a + S512.size a ≤ S16384.size a) :
    ((Memref.whole main_arg1_scv).slice (Rect.unit (s := S16384) (k0_off2 L) S512.size inb) (fun _ => rfl)).view.read (Elt F) lab = labOf lab (tw L) := by
  funext x
  refine congrArg lab (funext fun a => Fin.ext ?_)
  refine (ValueKit.view_emb_slice_whole_unit_val main_arg1_scv _ _ _ x a).trans ?_
  rw [congrFun (k0_off2_eq L) a]
  match a with
  | 0 => show 1024 * (L 1).val + 512 * (L 0).val + (x 0).val = 512 * (2 * (L 1).val + (L 0).val) + (x 0).val; omega

/-- An element of the tile's labels, as a gather's list reads it. -/
theorem read_list (lab : S16384.Idx → Elt F .i32) (w : Fin 32) (j : Fin 4) (o : ℕ) (ho : o = 128 * j.val)
    (inb : ∀ a, (![o] : Fin 1 → ℕ) a + S128.size a ≤ S512.size a) (x : S128.Idx) :
    ((Memref.whole cc0_scratch0).slice (Rect.unit (s := S512) ![o] S128.size inb) (fun _ => rfl)).view.read (Elt F) (labOf lab w) x
      = lab (ValueIdx.ix1 ⟨512 * w.val + 128 * j.val + (x 0).val, by have := (x 0).isLt; have : S128.size 0 = 128 := rfl; omega⟩) := by
  subst ho
  refine congrArg lab (funext fun a => Fin.ext ?_)
  match a with
  | 0 =>
    refine (congrArg (512 * w.val + ·) (ValueKit.view_emb_slice_whole_unit_val cc0_scratch0 _ _ _ x 0)).trans ?_
    show 512 * w.val + (128 * j.val + (x 0).val) = 512 * w.val + 128 * j.val + (x 0).val
    omega

/-- The whole shared buffer, as the gathers address it, reads itself. -/
theorem read_sh (cen : S1000x128.Idx → Elt F .f32) (inb : ∀ a, (![0, 0] : Fin 2 → ℕ) a + S1000x128.size a ≤ S1000x128.size a) :
    ((Memref.whole cc0_scratch2).slice (Rect.unit (s := S1000x128) ![0, 0] S1000x128.size inb) (fun _ => rfl)).view.read (Elt F) cen = cen := by
  funext x
  refine congrArg cen (funext fun a => Fin.ext ?_)
  refine (ValueKit.view_emb_slice_whole_unit_val cc0_scratch2 _ _ _ x a).trans ?_
  match a with
  | 0 => exact Nat.zero_add _
  | 1 => exact Nat.zero_add _

/-- A gather's words are in range. -/
theorem list_lt (lab : S16384.Idx → Elt F .i32) (hl : ∀ x, BitVec.toNat (lab x) < 1000) (w : Fin 32) (j : Fin 4) (o : ℕ) (ho : o = 128 * j.val)
    (inb : ∀ a, (![o] : Fin 1 → ℕ) a + S128.size a ≤ S512.size a) (x : S128.Idx) :
    BitVec.toNat (((Memref.whole cc0_scratch0).slice (Rect.unit (s := S512) ![o] S128.size inb) (fun _ => rfl)).view.read (Elt F) (labOf lab w) x) < 1000 := by
  rw [read_list lab w j o ho inb x]; exact hl _

/-- What a gather brings: the rows of the table the chunk's labels name. -/
theorem gather_eq (cen : S1000x128.Idx → Elt F .f32) (lab : S16384.Idx → Elt F .i32) (hl : ∀ x, BitVec.toNat (lab x) < 1000) (w : Fin 32) (j : Fin 4) (o : ℕ)
    (ho : o = 128 * j.val) (inb : ∀ a, (![o] : Fin 1 → ℕ) a + S128.size a ≤ S512.size a)
    (inb' : ∀ a, (![0, 0] : Fin 2 → ℕ) a + S1000x128.size a ≤ S1000x128.size a) (hg : S1000x128.Gathers 0 S128x128)
    (hn : S128.numel = S128x128.size hg.axis')
    (hin : ∀ x, BitVec.toNat (((Memref.whole cc0_scratch0).slice (Rect.unit (s := S512) ![o] S128.size inb) (fun _ => rfl)).view.read (Elt F) (labOf lab w) x) < S1000x128.size hg.axis) :
    SparseCore.gatherPayload (F := F) (e := .f32) hg
        (((Memref.whole cc0_scratch2).slice (Rect.unit (s := S1000x128) ![0, 0] S1000x128.size inb') (fun _ => rfl)).view.read (Elt F) cen)
        (SparseCore.rows (((Memref.whole cc0_scratch0).slice (Rect.unit (s := S512) ![o] S128.size inb) (fun _ => rfl)).view.read (Elt F) (labOf lab w)) hn hin)
      = cenBlk cen lab w j := by
  funext x
  rw [read_sh]
  refine congrArg cen (funext fun a => Fin.ext ?_)
  match a with
  | 0 =>
    refine (congrArg Fin.val (Shape.Gathers.idx_axis hg _ x)).trans ?_
    refine (congrArg BitVec.toNat (read_list lab w j o ho inb _)).trans ?_
    refine Eq.trans ?_ (Nat.mod_eq_of_lt (hl (ValueIdx.ix1 ⟨512 * w.val + 128 * j.val + (x 0).val, _⟩))).symm
    refine congrArg (fun i => BitVec.toNat (lab i)) (funext fun a => Fin.ext ?_)
    match a with
    | 0 =>
      show 512 * w.val + 128 * j.val + _ = 512 * w.val + 128 * j.val + (x 0).val
      congr 1
      have h := Shape.rowMajor_val_one (S128.rowMajor.symm ((x hg.axis').cast hn.symm))
      rw [Equiv.apply_symm_apply] at h
      exact h.symm
  | 1 => exact Shape.Gathers.idx_of_ne hg _ x 1 (by decide)

/-- The stage copy's two ends. -/
abbrev stageSrc (L : grid0.Coords) : Memref sig .scVector .hbm S64x128 .f32 :=
  (Memref.whole main_arg2_scv).slice (Rect.unit (s := S1000x128) (k0_off3 L) S64x128.size (k0_off3_inb L)) (fun _ => rfl)
abbrev stageDst (L : grid0.Coords) : Memref sig .scVector .shared S64x128 .f32 :=
  (Memref.whole cc0_scratch2).slice (Rect.unit (s := S1000x128) (k0_off3 L) S64x128.size (k0_off3_inb L)) (fun _ => rfl)

/-- The rows of the table the stage copy writes. -/
theorem set_stage (L : grid0.Coords) :
    (stageDst L).view.set = stageSet ⟨(L 1).val, (L 1).isLt⟩ := by
  ext x
  refine (ValueKit.mem_set_slice_whole_iff cc0_scratch2 _ x (Rect.mem_set_unit ..)).trans ?_
  simp only [stageSet, Finset.mem_filter, Finset.mem_univ, true_and]
  constructor
  · intro h
    have h0 := h 0
    rw [congrFun (k0_off3_eq L) 0] at h0
    exact h0
  · intro h a
    rw [congrFun (k0_off3_eq L) a]
    match a with
    | 0 => exact h
    | 1 => exact ⟨Nat.zero_le _, by have h : (x 1).val < 128 := (x 1).isLt; show (x 1).val < 0 + 128; omega⟩

/-- The stage copy brings the table's rows to their own places. -/
theorem stage_admitted (L : grid0.Coords) (cen : S1000x128.Idx → Elt F .f32) :
    (stageDst L).view.Admitted (Elt F) (fun i => some (cen i)) ((stageSrc L).view.read (Elt F) cen) Finset.univ :=
  View.admitted_some_iff.mpr fun _ _ => rfl

/-- The result copy's destination: the task's row, its unit axis dropped. -/
abbrev outDst (L : grid0.Coords) : Memref sig .scVector .hbm S16 .f32 :=
  ((Memref.whole main_v0_scv).slice (Rect.unit (s := S32x16) (k0_off36 L) S1x16.size (k0_off36_inb L)) (fun _ => rfl)).squeeze S16 squeezes_S1x16_S16

/-- The rectangle of the task's copy out is its row of the result. -/
theorem outRect_eq (L : grid0.Coords) : Rect.unit (s := S32x16) (k0_off36 L) S1x16.size (k0_off36_inb L) = oRow (tw L) := by
  unfold oRow Rect.part Rect.block
  congr 1 <;> funext a
  · rw [k0_off36_eq]
    match a with
    | 0 => simp [Shape.partIx, Shape.partSize, wid]
    | 1 => simp [Shape.partIx, Shape.partSize]
  · match a with
    | 0 => simp [Shape.partSize]
    | 1 => simp [Shape.partSize]

/-- The result copy writes the task's row, -/
theorem set_out (L : grid0.Coords) : (outDst L).view.set = oSet (tw L) := by
  show (((Memref.whole main_v0_scv : Memref sig .scVector .hbm S32x16 .f32).view.slice (Rect.unit (s := S32x16) (k0_off36 L) S1x16.size (k0_off36_inb L))).reshape
    S16 squeezes_S1x16_S16.numel_eq).set
      = ((Memref.whole main_v0_scv : Memref sig .scVector .hbm S32x16 .f32).view.slice (oRow (tw L))).set
  rw [View.set_reshape]
  exact outRect_eq L ▸ rfl

/-- lane by lane, -/
theorem emb_out (L : grid0.Coords) (y : Fin 16) : (outDst L).view.emb (ValueIdx.ix1 y) = ValueIdx.ix2 (tw L) y := by
  have h : Shape.reshapeEquiv (s := S1x16) (s' := S16) squeezes_S1x16_S16.numel_eq (ValueIdx.ix1 y) = ValueIdx.ix2 (0 : Fin 1) y :=
    Shape.reshapeEquiv_eq_of_rowMajor _ (by
      rw [Shape.rowMajor_val_two, Shape.rowMajor_val_one]
      show 0 * 16 + y.val = y.val
      omega)
  refine (congrArg ((Memref.whole main_v0_scv).slice (Rect.unit (s := S32x16) (k0_off36 L) S1x16.size (k0_off36_inb L)) (fun _ => rfl)).view.emb h).trans ?_
  funext a
  refine Fin.ext ?_
  refine (ValueKit.view_emb_slice_whole_unit_val main_v0_scv _ _ _ (ValueIdx.ix2 (0 : Fin 1) y) a).trans ?_
  rw [congrFun (k0_off36_eq L) a]
  match a with
  | 0 => rfl
  | 1 => exact Nat.zero_add _

/-- Lane `y` of row `w` of the kernel's array. -/
theorem partials_at (lat : S16384x128.Idx → Elt F .f32) (lab : S16384.Idx → Elt F .i32) (cen : S1000x128.Idx → Elt F .f32) (w : Fin 32) (y : Fin 16) :
    partials lat lab cen (ValueIdx.ix2 w y) = total (chunks lat lab cen w 4) (ValueIdx.ix1 y) := rfl

/-- and leaves what it brings there. -/
theorem out_written (L : grid0.Coords) (f : S32x16.Idx → Elt F .f32) (lat : S16384x128.Idx → Elt F .f32) (lab : S16384.Idx → Elt F .i32)
    (cen : S1000x128.Idx → Elt F .f32) (w : S16.Idx → Elt F .f32) (hw : w = total (chunks lat lab cen (tw L) 4)) (x : S32x16.Idx) (hx : x ∈ oSet (tw L)) :
    (outDst L).view.writes (Elt F) f [⟨Rect.whole S16, w⟩] x = partials lat lab cen x := by
  rw [← set_out] at hx
  obtain ⟨y, rfl⟩ : ∃ y, (outDst L).view.emb y = x := by
    obtain ⟨y, -, h⟩ := Finset.mem_map.mp hx
    exact ⟨y, h⟩
  have h := View.write_emb_of_mem (v := (outDst L).view.slice (Rect.whole S16)) (Val := Elt F) f w (x := y) (Finset.mem_univ y)
  have he : ((outDst L).view.slice (Rect.whole S16)).emb y = (outDst L).view.emb y := congrArg (outDst L).view.emb (Rect.emb_whole_apply (s := S16) y)
  have hx' : (outDst L).view.emb y = ValueIdx.ix2 (tw L) (⟨(y 0).val, (y 0).isLt⟩ : Fin 16) :=
    (congrArg (outDst L).view.emb (ValueIdx.eq_ix1 y)).trans (emb_out L _)
  rw [he, hx'] at h
  rw [View.writes_singleton, hx', partials_at]
  refine h.trans ?_
  have hc : w y = total (chunks lat lab cen (tw L) 4) (ValueIdx.ix1 (⟨(y 0).val, (y 0).isLt⟩ : Fin 16)) := (congrArg w (ValueIdx.eq_ix1 y)).trans (congrFun hw _)
  rw [← hc]
  rfl

/-- The task's sixteen lanes, as they are stored and read back for the copy out. -/
theorem stored_total (f : S16.Idx → Elt F .f32) (A : Accs F) (inb : ∀ a, (![0] : Fin 1 → ℕ) a + S16.size a ≤ S16.size a) :
    (Memref.whole cc0_scratch1).view.writes (Elt F) f [⟨Rect.unit (s := S16) ![0] S16.size inb, k0_pay1 (k0_pay46 (A 0) (A 1) (A 2) (A 3) (A 4) (A 5) (A 6) (A 7))⟩] = total A :=
  (Memref.write_access_unit_zero_univ (Elt F) cc0_scratch1 (funext fun a => match a with | 0 => rfl) inb f _).trans (by
    exact (funext fun i => congrArg (total A) (Shape.reshapeEquiv_self _ i) : shapeCast S16 (total A) shapeCasts_S16_S16 = total A))

end Cert.Proof.Run

end
-- ==== Proof.Exchange.lean ====
/-
  The two visits a vector subcore pays its SparseCore's exchange: before the barrier it leaves its written share and takes its tokens,
  after the barrier it leaves the tokens it was handed and takes a read share of the whole shared table.
-/
module

public import proofs.«01_k».proof.Proof.Own

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

variable (m : (ℓ : Loc nD τ sig) → Buf (Elt F) ℓ)

/-- A subcore's deposit token is one only. -/
theorem xdep_two (d : Dev nD) (c : Fin τ.nSC) (i : Fin 16) : iprop(xdep (F := F) d c i ∗ xdep d c i) ⊢ (False : sProp 𝕄) := dutyTok_dutyTok_false EB
/-- A withdrawal token is one only. -/
theorem xtok_two (d : Dev nD) (c : Fin τ.nSC) (i j : Fin 16) : iprop(xtok (F := F) d c i j ∗ xtok d c i j) ⊢ (False : sProp 𝕄) := dutyTok_dutyTok_false EB

/-- Task `i` leaves its write share, its rows written, and takes a token for every task. -/
theorem leave_written (d : Dev nD) (c : Fin τ.nSC) (ιx : ℕ) (i : Fin 16) :
    iprop(inv ιx (xchg m d c) ∗ xW m d c i ∗ xdep d c i) ⊢ (iprop(|={Set.univ}=> bigSep Finset.univ fun j : Fin 16 => xtok d c i j) : sProp 𝕄) := by
  iintro ⟨#Hi, HW, Hd⟩
  imod (inv_acc (Set.mem_univ ιx)) $$ Hi with ⟨Hx, Hclose⟩
  unfold xchg
  ihave H := (exch_deposit (xtok d c) (xdep d c) (xW m d c) (xR m d c) (xdep_two d c) i) $$ [Hx HW Hd]
  · isplitl [Hx]; · iexact Hx
    isplitl [HW] <;> iassumption
  icases H with ⟨Hx, Ht⟩
  ihave Hc := Hclose $$ Hx
  imod Hc with -
  imodintro
  iexact Ht

/-- Task `j` leaves a token of every task's and takes its read share. -/
theorem take_table (d : Dev nD) (c : Fin τ.nSC) (ιw ιx : ℕ) (hne : ιx ≠ ιw) (j : Fin 16) :
    iprop(wmInv EW ιw ∗ inv ιx (xchg m d c) ∗ bigSep Finset.univ fun i : Fin 16 => xtok d c i j) ⊢ (iprop(|={Set.univ}=> xR m d c j) : sProp 𝕄) := by
  iintro ⟨#Hw, #Hi, Ht⟩
  imod (inv_acc (Set.mem_univ ιx)) $$ Hi with ⟨Hx, Hclose⟩
  unfold xchg
  haveI : Nonempty (Fin 16) := ⟨0⟩
  have hc : iprop(wmInv EW ιw ∗ bigSep Finset.univ (xW m d c)) ⊢ (iprop(|={Set.univ \ {ιx}}=> bigSep Finset.univ (xR m d c)) : sProp 𝕄) :=
    wshare_collect (emb := EW) (ℓ := shLoc d c) (t := tbl m d c) (show ιw ∈ Set.univ \ {ιx} from ⟨Set.mem_univ _, fun h => hne h.symm⟩) 4 stageSet stageSet_cover
  imod (exch_withdraw (xtok d c) (xdep d c) (xW m d c) (xR m d c) (xtok_two d c) hc j) $$ [Hx Ht] with ⟨Hx, HR⟩
  · isplitr; · iexact Hw
    isplitl [Hx] <;> iassumption
  ihave Hc := Hclose $$ Hx
  imod Hc with -
  imodintro
  iexact HR

end Cert.Proof.Run

end
-- ==== Proof.Tile.lean ====
/-
  scratch
-/
module

public import proofs.«01_k».proof.Proof.Views
public import proofs.«01_k».proof.Proof.Loops
public import proofs.«01_k».proof.Proof.Exchange

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

variable (m : (ℓ : Loc nD τ sig) → Buf (Elt F) ℓ)

/-- The part of an array's share no transfer's cell takes. -/
def spare {ℓ : Loc nD τ sig} (q : PosShare TreeShare) (a : ℕ) (f : Buf (Elt F) ℓ) : sProp 𝕄 :=
  iprop((ℓ ↦[Finset.univ]{Transfers.shareDrop q (a + 3)} f) ∗ bigSep (Finset.range a) fun i => ℓ ↦[Finset.univ]{Transfers.shareTokN q i} f)

/-- A share of an array is a read share for each of three consecutive cells and the rest. -/
theorem toks (ℓ : Loc nD τ sig) (q : PosShare TreeShare) (a : ℕ) (f : Buf (Elt F) ℓ) :
    (ℓ ↦[Finset.univ]{q} f : sProp 𝕄) ⊣⊢ iprop(spare q a f ∗ (ℓ ↦[Finset.univ]{Transfers.shareTokN q a} f)
      ∗ (ℓ ↦[Finset.univ]{Transfers.shareTokN q (a + 1)} f) ∗ (ℓ ↦[Finset.univ]{Transfers.shareTokN q (a + 2)} f)) := by
  have h := Transfers.pointsTo_toks_range (nD := nD) (τ := τ) (sig := sig) (Ix := HIx 1) (Val := Elt F) (Name := ℕ) (U := UU F) (Lvl := ℕ) (ℓ := ℓ) (S := Finset.univ) (f := f) q (a + 3)
  rw [show Finset.range (a + 3) = insert (a + 2) (insert (a + 1) (insert a (Finset.range a))) from by
      ext x; simp only [Finset.mem_range, Finset.mem_insert]; omega,
    bigSep_insert (by simp), bigSep_insert (by simp), bigSep_insert (by simp)] at h
  unfold spare
  have h1 : (ℓ ↦[Finset.univ]{q} f : sProp 𝕄) ⊣⊢ iprop((ℓ ↦[Finset.univ]{Transfers.shareDrop q (a + 3)} f) ∗ (ℓ ↦[Finset.univ]{Transfers.shareTokN q (a + 2)} f)
      ∗ (ℓ ↦[Finset.univ]{Transfers.shareTokN q (a + 1)} f) ∗ (ℓ ↦[Finset.univ]{Transfers.shareTokN q a} f)
      ∗ bigSep (Finset.range a) fun i => ℓ ↦[Finset.univ]{Transfers.shareTokN q i} f) := h
  constructor
  · refine h1.1.trans ?_
    iintro ⟨H, H2, H1, H0, Hr⟩
    isplitl [H Hr]
    · isplitl [H] <;> iassumption
    isplitl [H0]; · iexact H0
    isplitl [H1] <;> iassumption
  · refine BIBase.Entails.trans ?_ h1.2
    iintro ⟨⟨H, Hr⟩, H0, H1, H2⟩
    isplitl [H]; · iexact H
    isplitl [H2]; · iexact H2
    isplitl [H1]; · iexact H1
    isplitl [H0] <;> iassumption

/-- A share of an argument, as a tile's copies read it. -/
abbrev hbm {shp : Shape} {ty : EltTy} (d : Dev nD) (L : grid0.Coords) (b : Memref sig .scVector .hbm shp ty) (q : PosShare TreeShare) (f : Buf (Elt F) (b.view.loc (thr d L))) : sProp 𝕄 :=
  b.view.loc (thr d L) ↦[Finset.univ]{q} f

/-- A share of the shared buffer, as a tile's gathers read it. -/
abbrev shv {shp : Shape} {ty : EltTy} (d : Dev nD) (L : grid0.Coords) (b : Memref sig .scVector .shared shp ty) (q : PosShare TreeShare) (f : Buf (Elt F) (b.view.loc (thr d L))) : sProp 𝕄 :=
  b.view.loc (thr d L) ↦[Finset.univ]{q} f

/-- The write share the stage copy returns is the one the exchange takes. -/
theorem xW_eq (d : Dev nD) (L : grid0.Coords) :
    wshare EW (View.loc (thr d L) (stageDst L).view) (m (cenLoc d)) (leaf 4 fullShare (tileAt L : Fin 16)) (stageDst L).view.set = xW m d (coreAt L) ⟨(L 1).val, (L 1).isLt⟩ := by
  rw [set_stage L]; rfl

/-- A gathered buffer's contents. -/
theorem gathered {b : Ref sig .scVector} (f w : b.ty.Contents (Elt F)) : (Memref.whole b).view.writes (Elt F) f [⟨Rect.whole b.ty.shape, w⟩] = w := by
  rw [View.writes_singleton]; exact Memref.write_access_whole_univ (Elt F) b f w

/-- The tuple of accumulators, written out. -/
theorem tup_eq (A : Accs F) : tup A = (A 0, A 1, A 2, A 3, A 4, A 5, A 6, A 7) := rfl

/-- The task's row of the result, as its copy out addresses it. -/
theorem out_pts (d : Dev nD) (L : grid0.Coords) (f : Buf (Elt F) (oLoc d)) :
    ((outDst L).view.loc (thr d L) ↦[(outDst L).view.set]{fullShare} f : sProp 𝕄) = oPts d (tw L) f := by
  rw [set_out]

/-- The barrier's round brings the task the sixteen tokens that are for it. -/
theorem got_toks (d : Dev nD) (L : grid0.Coords) :
    (bigSep ((gateRd (F := F)).duties (gateAt d (coreAt L) (tileAt L)) 0 \ ∅) fun n => (gateRd (F := F)).payload (gateAt d (coreAt L) (tileAt L)) 0 n : sProp 𝕄)
      ⊢ bigSep Finset.univ fun i : Fin 16 => xtok d (coreAt L) i ⟨(L 1).val, (L 1).isLt⟩ := by
  rw [Finset.sdiff_empty, gateRd_first]
  exact Entails.of_eq (SparseCore.bigSep_image_of_injOn (Fin.val_injective.injOn) _)

set_option maxHeartbeats 4000000 in
/-- A task's run: from its kit, its shares of the arguments, its row of the result and its share of the table, it ends
    with its dues paid, its row holding its partial sums, its shares of the arguments back, what it takes from the exchange, and
    its barrier semaphore at zero. -/
theorem tile_body (d : Dev nD) (L : grid0.Coords) (q : PosShare TreeShare) (hl : ∀ x, BitVec.toNat (m (labLoc d) x) < 1000) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ (gateKit d (coreAt L) (tileAt L) ∗ xkit m d (coreAt L) (tileAt L))
        ∗ (args m d q ∗ oPts d (tw L) (m (oLoc d)) ∗ wshare EW (shLoc d (coreAt L)) (tbl m d (coreAt L)) (leaf 4 fullShare (tileAt L : Fin 16)) ∅)
        ∗ scopedBufs (thr d L) ∗ scopedSems0 (thr d L) ∗ owes (thr d L) (O + gateDues d (coreAt L)) W)
      ⊢ wp frame (wpE (defs₀ (F := F)) 𝒱₀ (thr d L) none) Set.univ
          (cc0__sc_body L (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1)
          fun _ => iprop(((args m d q ∗ oPts d (tw L) (outV m d) ∗ xR m d (coreAt L) (tileAt L)) ∗ semVal (gateAt d (coreAt L) (tileAt L)) 0)
            ∗ scopedBufs (thr d L) ∗ scopedSems0 (thr d L)
            ∗ ∃ W', ⌜∀ p ∈ W', p ∈ W ∨ p.2 = none ∨ p.2 = some (0 : Fin 1)⌝ ∗ owes (thr d L) O W') := by
  rw [cc0__sc_body_eq_skeleton]; unfold cc0__sc_body_skel; rw [k0_part5_eq_skeleton]; unfold k0_part5_skel
  rw [(K (F := F)).scopedBufs_V hF d (coreAt L) (tileAt L), SparseCore.Cfg.scopedSems0_V (Val := Elt F) d (coreAt L) (tileAt L), ownSems0_V, ownBufs_V]
  unfold gateKit xkit
  iintro ⟨#Hlv, ⟨⟨Hat, Hcred, Htoks, #Hrch, ⟨%κ, #Hinv⟩⟩, ⟨%ιw, %ιx, %hne, #Hwm, #Hx⟩, Hdep⟩, ⟨⟨Hlat, Hlab, Hcen⟩, Ho, Hsh⟩, ⟨⟨%f0, Hb0⟩, ⟨%f1, Hb1⟩, ⟨%f4, Hb4⟩, ⟨%f5, Hb5⟩, ⟨%f6, Hb6⟩, ⟨%f7, Hb7⟩, ⟨%f8, Hb8⟩, ⟨%f9, Hb9⟩, Hbufs⟩, ⟨Hs0, Hs1, Hs2, Hs3, Hs4, Hs5, Hs6, Hs7, Hs8, Hsems⟩, HO⟩
  have hO' : ∀ g, (O + gateDues d (coreAt L)) g none = 0 := fun g => by
    rw [Pi.add_apply, Finsupp.add_apply, hO g, zero_add]
    exact Classical.not_not.1 fun h => nomatch (gateDues_where h).1
  ihave Hmw1 := (show levAts (K (F := F)).L (K (F := F)).lev ⊢ Transfers.MayWaits (thr d L) (default : HIx 1) (O + gateDues d (coreAt L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  ihave Hlab := (Entails.of_eq (show _ = hbm d L (Memref.whole main_arg1_scv) q (m (labLoc d)) from rfl)) $$ Hlab
  ihave Hlat' := (toks ((Memref.whole main_arg0_scv).view.loc (thr d L)) q 1 _).1 $$ Hlat
  icases Hlat' with ⟨Hlat, Hlat1, Hlat2, Hlat3⟩
  -- the first three fills under way, the labels in
  sl_exec
  -- its rows of the table into the shared buffer, and the wait
  ihave Hcen := (Entails.of_eq (show _ = hbm d L (Memref.whole main_arg2_scv) q (m (cenLoc d)) from rfl)) $$ Hcen
  ihave Hcen' := (pointsTo_split_subset (Finset.subset_univ (stageSrc L).view.set)).1 $$ Hcen
  icases Hcen' with ⟨Hcs, Hcen⟩
  iapply (wp_dmaShared 𝒱₀ countersEmb (thr d L) none (default : HIx 1) 262144 rfl (by decide) (stage_admitted L (m (cenLoc d)))) $$ [Hcs Hsh Hs8]
  · isplitl [Hcs]; · iexact Hcs
    isplitr; · iexact Hwm
    isplitl [Hsh]; · iexact Hsh
    iexact Hs8
  iintro Hfl
  sl_exec
  -- its write share left with its rows written, for the sixteen tokens
  imod (leave_written m d (coreAt L) ιx ⟨(L 1).val, (L 1).isLt⟩) $$ [Hfl_dst Hdep] with Hpays
  · isplitr; · iexact Hx
    isplitl [Hfl_dst]; · iapply (Entails.of_eq (xW_eq m d L)); iexact Hfl_dst
    iexact Hdep
  -- the barrier: a token handed to every task, the sixteen of its own received
  iapply (SparseCore.wp_subcoreBarrier 𝒱₀ none EB (gateRd (F := F)) d (sc := coreAt L) (i := tileAt L) sc_bar0 (grid0.bound 1) hsub0 (L 1) rfl κ (fun _ => 0) (tileAt L).val
      (fun _ => gateRd_comer _ (tileAt L)) (fun _ => rfl) (gateRd_units _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        exact ((K (F := F)).lev_V_reg d _ _ gate_apart 0).le)
      (fun g ι hg => lt_of_lt_of_le (by decide) (hOlev g ι hg)))
    iexact Hlv
  iintro ⟨HO, Hat, -, Hgot⟩
  -- its one round over, the task closes its barrier cell and keeps the counter, at zero
  imod (Rounds.cell_close EB (gateRd (F := F)) (g := gateAt d (coreAt L) (tileAt L)) (Set.mem_univ (κ _)) (fun h => h) (gateRd_over _)) $$ [Hat] with Hbar
  · isplitr
    · iapply (SparseCore.ent (bigSep_elim (Φ := fun j : Fin (grid0.bound 1) =>
        (cellInv EB (gateRd (F := F)) (κ (gateAt d (coreAt L) (j.castLE hsub0))) (gateAt d (coreAt L) (j.castLE hsub0)) : sProp 𝕄)) (Finset.mem_univ (L 1)))); iexact Hinv
    · iexact Hat
  -- the sixteen tokens for a read share of the table
  imod (take_table m d (coreAt L) ιw ιx hne ⟨(L 1).val, (L 1).isLt⟩) $$ [Hgot] with Hsh
  · isplitr; · iexact Hwm
    isplitr; · iexact Hx
    iapply (SparseCore.ent (got_toks d L)); iexact Hgot
  have hb0 : View.write (Elt F) (Memref.whole cc0_scratch0).view f0 (tile_body.sl.dma0_3 m d L) Finset.univ = labOf (m (labLoc d)) (tw L) :=
    (View.write_whole_univ ..).trans (read_lab L (m (labLoc d)) _)
  rw [hb0]
  ihave Hb0' := (toks ((Memref.whole cc0_scratch0).view.loc (thr d L)) fullShare 4 (labOf (m (labLoc d)) (tw L))).1 $$ Hb0
  icases Hb0' with ⟨Hb0, Hb04, Hb05, Hb06⟩
  ihave Hsh := (Entails.of_eq (show xR m d (coreAt L) ⟨(L 1).val, (L 1).isLt⟩ = shv d L (Memref.whole cc0_scratch2) (leaf 4 fullShare (tileAt L : Fin 16)) (m (cenLoc d)) from rfl)) $$ Hsh
  ihave Hsh' := (toks ((Memref.whole cc0_scratch2).view.loc (thr d L)) (leaf 4 fullShare (tileAt L : Fin 16)) 4 (m (cenLoc d))).1 $$ Hsh
  icases Hsh' with ⟨Hsh, Hsh4, Hsh5, Hsh6⟩
  have hin0 := list_lt (m (labLoc d)) hl (tw L) 0 0 rfl inb_S512_S128_0
  have hin1 := list_lt (m (labLoc d)) hl (tw L) 1 128 rfl inb_S512_S128_128
  have hin2 := list_lt (m (labLoc d)) hl (tw L) 2 256 rfl inb_S512_S128_256
  have hin3 := list_lt (m (labLoc d)) hl (tw L) 3 384 rfl inb_S512_S128_384
  sl_exec
  -- the first chunk
  have hb4 : View.write (Elt F) (Memref.whole cc0_scratch4).view f4 (tile_body.sl.dma0 m d L) Finset.univ = latBlk (m (latLoc d)) (tw L) 0 :=
    (View.write_whole_univ ..).trans (read_lat L (m (latLoc d)) 0 _ rfl _)
  have hb7 : (Memref.whole cc0_scratch7).view.writes (Elt F) (Memref.whole cc0_scratch7).view.junk [⟨Rect.whole cc0_scratch7.ty.shape, tile_body.sl.gather0 m d L hin0⟩]
      = cenBlk (m (cenLoc d)) (m (labLoc d)) (tw L) 0 :=
    (gathered ..).trans (gather_eq (m (cenLoc d)) (m (labLoc d)) hl (tw L) 0 _ rfl _ _ _ _ _)
  rw [hb4, hb7, show (k0_pay26, k0_pay27, k0_pay28, k0_pay29, k0_pay30, k0_pay31, k0_pay32, k0_pay33) = tup (F := F) zeros from rfl]
  iapply (loop1 d L _ _ zeros _ _ _ _) $$ [Hb4 Hb7]
  · isplitl [Hb4]; · iexact Hb4
    iexact Hb7
  iintro ⟨Hb4, Hb7⟩
  rw [tup_eq]
  sl_exec
  -- chunk 1
  have hb5_1 : View.write (Elt F) (Memref.whole cc0_scratch5).view f5 (tile_body.sl.dma0_1 m d L) Finset.univ = latBlk (m (latLoc d)) (tw L) 1 :=
    (View.write_whole_univ ..).trans (read_lat L (m (latLoc d)) 1 _ rfl _)
  have hb8_1 : (Memref.whole cc0_scratch8).view.writes (Elt F) (Memref.whole cc0_scratch8).view.junk [⟨Rect.whole cc0_scratch8.ty.shape, tile_body.sl.gather1 m d L hin1⟩]
      = cenBlk (m (cenLoc d)) (m (labLoc d)) (tw L) 1 :=
    (gathered ..).trans (gather_eq (m (cenLoc d)) (m (labLoc d)) hl (tw L) 1 _ rfl _ _ _ _ _)
  rw [hb5_1, hb8_1, show (tile_body.sl.r m d L, tile_body.sl.r_1 m d L, tile_body.sl.r_2 m d L, tile_body.sl.r_3 m d L, tile_body.sl.r_4 m d L, tile_body.sl.r_5 m d L, tile_body.sl.r_6 m d L, tile_body.sl.r_7 m d L) = tup (chunks (m (latLoc d)) (m (labLoc d)) (m (cenLoc d)) (tw L) 1) from rfl]
  iapply (loop2 d L _ _ _ _ _ _ _ _ _ _ _) $$ [Hb5 Hb8]
  · isplitl [Hb5]; · iexact Hb5
    iexact Hb8
  iintro ⟨Hb5, Hb8⟩
  rw [tup_eq]
  sl_exec
  -- chunk 2
  have hb6_2 : View.write (Elt F) (Memref.whole cc0_scratch6).view f6 (tile_body.sl.dma0_2 m d L) Finset.univ = latBlk (m (latLoc d)) (tw L) 2 :=
    (View.write_whole_univ ..).trans (read_lat L (m (latLoc d)) 2 _ rfl _)
  have hb9_2 : (Memref.whole cc0_scratch9).view.writes (Elt F) (Memref.whole cc0_scratch9).view.junk [⟨Rect.whole cc0_scratch9.ty.shape, tile_body.sl.gather2 m d L hin2⟩]
      = cenBlk (m (cenLoc d)) (m (labLoc d)) (tw L) 2 :=
    (gathered ..).trans (gather_eq (m (cenLoc d)) (m (labLoc d)) hl (tw L) 2 _ rfl _ _ _ _ _)
  rw [hb6_2, hb9_2, ← tup_eq (rows (latBlk (m (latLoc d)) (tw L) 1) (cenBlk (m (cenLoc d)) (m (labLoc d)) (tw L) 1) 128 (chunks (m (latLoc d)) (m (labLoc d)) (m (cenLoc d)) (tw L) 1)), show rows (latBlk (m (latLoc d)) (tw L) 1) (cenBlk (m (cenLoc d)) (m (labLoc d)) (tw L) 1) 128 (chunks (m (latLoc d)) (m (labLoc d)) (m (cenLoc d)) (tw L) 1) = chunks (m (latLoc d)) (m (labLoc d)) (m (cenLoc d)) (tw L) 2 from rfl]
  iapply (loop3 d L _ _ _ _ _ _ _ _ _ _ _) $$ [Hb6 Hb9]
  · isplitl [Hb6]; · iexact Hb6
    iexact Hb9
  iintro ⟨Hb6, Hb9⟩
  rw [tup_eq]
  sl_exec
  -- chunk 3
  have hb4_3 : View.write (Elt F) (Memref.whole cc0_scratch4).view (latBlk (m (latLoc d)) (tw L) 0) (tile_body.sl.dma0_4 m d L) Finset.univ = latBlk (m (latLoc d)) (tw L) 3 :=
    (View.write_whole_univ ..).trans (read_lat L (m (latLoc d)) 3 _ rfl _)
  have hb7_3 : (Memref.whole cc0_scratch7).view.writes (Elt F) (Memref.whole cc0_scratch7).view.junk [⟨Rect.whole cc0_scratch7.ty.shape, tile_body.sl.gather1_1 m d L hin3⟩]
      = cenBlk (m (cenLoc d)) (m (labLoc d)) (tw L) 3 :=
    (gathered ..).trans (gather_eq (m (cenLoc d)) (m (labLoc d)) hl (tw L) 3 _ rfl _ _ _ _ _)
  rw [hb4_3, hb7_3, ← tup_eq (rows (latBlk (m (latLoc d)) (tw L) 2) (cenBlk (m (cenLoc d)) (m (labLoc d)) (tw L) 2) 128 (chunks (m (latLoc d)) (m (labLoc d)) (m (cenLoc d)) (tw L) 2)), show rows (latBlk (m (latLoc d)) (tw L) 2) (cenBlk (m (cenLoc d)) (m (labLoc d)) (tw L) 2) 128 (chunks (m (latLoc d)) (m (labLoc d)) (m (cenLoc d)) (tw L) 2) = chunks (m (latLoc d)) (m (labLoc d)) (m (cenLoc d)) (tw L) 3 from rfl]
  iapply (loop4 d L _ _ _ _ _ _ _ _ _ _ _) $$ [Hb4 Hb7]
  · isplitl [Hb4]; · iexact Hb4
    iexact Hb7
  iintro ⟨Hb4, Hb7⟩
  rw [tup_eq]
  ihave Ho := (Entails.of_eq (out_pts d L (m (oLoc d))).symm) $$ Ho
  sl_exec
  sl_step
  have hout : tile_body.sl.dma2 m d L f1 = total (chunks (m (latLoc d)) (m (labLoc d)) (m (cenLoc d)) (tw L) 4) := by
    unfold tile_body.sl.dma2 tile_body.sl.Hb1_1 tile_body.sl.r_8
    rw [ReadAs.apply_same]
    refine (View.read_whole (Val := Elt F) cc0_scratch1 _).trans ?_
    exact (stored_total f1 (rows (latBlk (m (latLoc d)) (tw L) 3) (cenBlk (m (cenLoc d)) (m (labLoc d)) (tw L) 3) 128 (chunks (m (latLoc d)) (m (labLoc d)) (m (cenLoc d)) (tw L) 3)) _).trans
      (congrArg total (show _ = chunks (m (latLoc d)) (m (labLoc d)) (m (cenLoc d)) (tw L) 4 from rfl))
  ihave Ho := (Entails.of_eq ((pointsTo_congr fun x hx => out_written L (m (oLoc d)) (m (latLoc d)) (m (labLoc d)) (m (cenLoc d)) _ hout x (set_out L ▸ hx)).trans (out_pts d L (outV m d)))) $$ Ho
  -- the shares put together again
  ihave Hlat := (toks ((Memref.whole main_arg0_scv).view.loc (thr d L)) q 1 _).2 $$ [Hlat Hlat1 Hlat2 Hlat3]
  · isplitl [Hlat]; · iexact Hlat
    isplitl [Hlat1]; · iexact Hlat1
    isplitl [Hlat2] <;> iassumption
  ihave Hb0 := (toks ((Memref.whole cc0_scratch0).view.loc (thr d L)) fullShare 4 _).2 $$ [Hb0 Hb04 Hb05 Hb06]
  · isplitl [Hb0]; · iexact Hb0
    isplitl [Hb04]; · iexact Hb04
    isplitl [Hb05] <;> iassumption
  ihave Hsh := (toks ((Memref.whole cc0_scratch2).view.loc (thr d L)) (leaf 4 fullShare (tileAt L : Fin 16)) 4 _).2 $$ [Hsh Hsh4 Hsh5 Hsh6]
  · isplitl [Hsh]; · iexact Hsh
    isplitl [Hsh4]; · iexact Hsh4
    isplitl [Hsh5] <;> iassumption
  isplitl [Hlat Hlab Hcen Ho Hsh Hbar]
  · isplitr [Hbar]; swap; · iexact Hbar
    isplitl [Hlat Hlab Hcen]
    · isplitl [Hlat]; · iexact Hlat
      isplitl [Hlab]; · iexact Hlab
      iexact Hcen
    isplitl [Ho]; · iexact Ho
    iapply (Entails.of_eq (show shv d L (Memref.whole cc0_scratch2) (leaf 4 fullShare (tileAt L : Fin 16)) (m (cenLoc d)) = xR m d (coreAt L) (tileAt L) from rfl)); iexact Hsh
  isplitl [Hb0 Hb1 Hb4 Hb5 Hb6 Hb7 Hb8 Hb9 Hbufs]
  · isplitl [Hb0]; · iexists _; iexact Hb0
    isplitl [Hb1]; · iexists _; iexact Hb1
    isplitl [Hb4]; · iexists _; iexact Hb4
    isplitl [Hb5]; · iexists _; iexact Hb5
    isplitl [Hb6]; · iexists _; iexact Hb6
    isplitl [Hb7]; · iexists _; iexact Hb7
    isplitl [Hb8]; · iexists _; iexact Hb8
    isplitl [Hb9]; · iexists _; iexact Hb9
    iexact Hbufs
  isplitl [Hs0 Hs1 Hs2 Hs3 Hs4 Hs5 Hs6 Hs7 Hfl Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hfl]; · iexact Hfl
    iexact Hsems
  iexists _; isplitr
  swap; · iexact HO
  ipureintro; intro p hp
  simp only [Finset.mem_insert] at hp
  rcases hp with hp | hp | hp | hp | hp | hp | hp | hp | hp | hp | hp | hp | hp
  on_goal 13 => exact .inl hp
  on_goal 10 => exact .inr (.inr (hp ▸ rfl))
  all_goals exact .inr (.inl (hp ▸ rfl))

end Cert.Proof.Run

end
-- ==== Proof.Obl.lean ====
/-
  Every task of the call, as the launch asks for it.
-/
module

public import proofs.«01_k».proof.Proof.Tile

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

variable (m : (ℓ : Loc nD τ sig) → Buf (Elt F) ℓ)

/-- The grid's coordinates of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A vector subcore's body is the kernel's, at its coordinates. -/
theorem defs₀_vector (c : Fin τ.nSC) (s : Fin τ.nSub) :
    defs₀ (F := F) (.scVector c s) 0 ()
      = SparseCore.onTile hcore0 hsub0 (fun c s => cc0__sc_body (coordsV c s) (Memref.whole main_arg0_scv) (Memref.isWhole_whole _) (Memref.whole main_arg1_scv) (Memref.isWhole_whole _) (Memref.whole main_arg2_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) cc0_scratch3
            (Memref.whole cc0_scratch4) (Memref.isWhole_whole _) (Memref.whole cc0_scratch5) (Memref.isWhole_whole _) (Memref.whole cc0_scratch6) (Memref.isWhole_whole _)
            (Memref.whole cc0_scratch7) (Memref.isWhole_whole _) (Memref.whole cc0_scratch8) (Memref.isWhole_whole _) (Memref.whole cc0_scratch9) (Memref.isWhole_whole _)
            cc0_scratch10 cc0_scratch11 cc0_scratch12 cc0_scratch13 cc0_scratch14 cc0_scratch15 cc0_scoped0 cc0_scoped1) ⟨⟩ c s := rfl

set_option maxRecDepth 16384 in
/-- Every task meets what the dispatch asks of it. -/
theorem tileObl (hl : ∀ d x, BitVec.toNat (m (labLoc d) x) < 1000) (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = gateDues d ((K (F := F)).core 0 c) from rfl,
    show (P m).x 0 (V d ((K (F := F)).core 0 c) ((K (F := F)).sub 0 i)) = iprop(gateKit d ((K (F := F)).core 0 c) ((K (F := F)).sub 0 i) ∗ xkit m d ((K (F := F)).core 0 c) ((K (F := F)).sub 0 i)) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) (qT c i) (hl d) hF O W hO hOlev

end Cert.Proof.Run

end
-- ==== Proof.Split.lean ====
/-
  How a SparseCore's share of the operands splits into its tasks' and its results gather from theirs.
-/
module

public import proofs.«01_k».proof.Proof.Setup

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

variable (m : (ℓ : Loc nD τ sig) → Buf (Elt F) ℓ)

/-- The arguments at a share are the arguments at its leaves. -/
theorem args_leaves (d : Dev nD) (n : ℕ) (q : PosShare TreeShare) :
    (args m d q : sProp 𝕄) = bigSep Finset.univ fun i : Fin (2 ^ n) => args m d (leaf n q i) := by
  unfold args
  rw [bigSep_sep', bigSep_sep', ← pointsTo_leaves, ← pointsTo_leaves, ← pointsTo_leaves]

/-- The shared buffer at the table is its readers' shares. -/
theorem shared_leaves (d : Dev nD) (c : Fin τ.nSC) :
    (shLoc d c ↦[Finset.univ]{fullShare} tbl m d c : sProp 𝕄) = bigSep Finset.univ fun j : Fin 16 => xR m d c j :=
  pointsTo_leaves Finset.univ (tbl m d c) 4 fullShare

/-- A sequencer's own buffers are its SparseCore's shared buffer, at some contents, and the rest. -/
theorem ownBufs_S (d : Dev nD) (c : Fin τ.nSC) :
    (ownBufs (S d c) : sProp 𝕄)
      = iprop((∃ f, shLoc d c ↦[Finset.univ]{fullShare} f) ∗ bigSep ((ownRefs (τ := τ) (.scScalar c)).erase (shRef c)) fun b => iprop(∃ f, ((d, b) : Loc nD τ sig) ↦{fullShare} f)) :=
  SparseCore.bigSep_erase' ((mem_ownRefs (p := Proc.scScalar c) (b := shRef c)).mpr rfl)

/-- Three big conjunctions side by side. -/
theorem big_three (A B C : Fin 16 → sProp 𝕄) :
    (bigSep Finset.univ fun i => iprop(A i ∗ B i ∗ C i)) = iprop((bigSep Finset.univ A) ∗ (bigSep Finset.univ B) ∗ bigSep Finset.univ C) := by
  rw [bigSep_sep', bigSep_sep']

/-- Three and one. -/
theorem big_four (A B C E : Fin 16 → sProp 𝕄) :
    (bigSep Finset.univ fun i => iprop((A i ∗ B i ∗ C i) ∗ E i))
      = iprop(((bigSep Finset.univ A) ∗ (bigSep Finset.univ B) ∗ bigSep Finset.univ C) ∗ bigSep Finset.univ E) := by
  rw [bigSep_sep', big_three]

/-- What the sequencers owe of their own: nothing. -/
abbrev Os₀ (q : Fin 1) (_ : Dev nD) (_ : Fin ((K (F := F)).nCore q)) : CellTallies nD τ sig (HIx 1) := 0
/-- What the split leaves with a sequencer: what it was dealt, and its own semaphores. -/
abbrev Xs₀ (q : Fin 1) (d : Dev nD) (c : Fin ((K (F := F)).nCore q)) : sProp 𝕄 :=
  iprop((P m).x q (S d ((K (F := F)).core q c)) ∗ emp ∗ (P m).ownSems0' (S d ((K (F := F)).core q c)))
/-- What a sequencer brings to the join: nothing. -/
abbrev Ys₀ (q : Fin 1) (_ : Dev nD) (_ : Fin ((K (F := F)).nCore q)) : sProp 𝕄 := iprop(emp)

/-- A sequencer puts its SparseCore's shared buffer in write mode with the table as its target, and deals it and the operands to
    the tasks; of their returns it makes the call's results and has the buffer back. -/
theorem vecSplit (hk : (K (F := F)).kind 0 = .scVector) : (K (F := F)).VecSplit₃ (P m) Os₀ (Xs₀ m) Ys₀ 0 := by
  intro d c
  have hs : ((P m).ownSems0' (S d (coreOf c)) : sProp 𝕄) = ownSems0 (S d (coreOf c)) := (P m).ownSems0'_S_of_vec d (q := 0) ⟨hk, (K (F := F)).inCall_core 0 c⟩
  show iprop((∃ ιw : ℕ, wmInv EW ιw) ∗ (args m d (qC c) ∗ bigSep Finset.univ fun i : Fin 16 => oPts d (wid c i) (m (oLoc d))) ∗ ownBufs (S d (coreOf c))
        ∗ cred 0 ∗ ownSems0 (S d (coreOf c)) ∗ bigSep Finset.univ fun i : Fin 16 => scopedSems0 (V d (coreOf c) (subOf i)))
      ⊢ |={Set.univ}=> iprop((bigSep Finset.univ fun i : Fin 16 => scopedSems0 (V d (coreOf c) (subOf i)))
        ∗ (bigSep Finset.univ fun i : Fin 16 => iprop(args m d (leaf 4 (qC c) i) ∗ oPts d (wid c i) (m (oLoc d))
            ∗ wshare EW (shLoc d (coreOf c)) (tbl m d (coreOf c)) (leaf 4 fullShare i) ∅))
        ∗ ((∃ ιw : ℕ, wmInv EW ιw) ∗ emp ∗ (P m).ownSems0' (S d (coreOf c)))
        ∗ (((bigSep Finset.univ fun i : Fin 16 => iprop((args m d (leaf 4 (qC c) i) ∗ oPts d (wid c i) (outV m d) ∗ xR m d (coreOf c) i) ∗ semVal (gateAt d (coreOf c) (subOf i)) 0)) ∗ emp)
            -∗ (((args m d (qC c) ∗ bigSep Finset.univ fun i : Fin 16 => oPts d (wid c i) (outV m d)) ∗ bigSep Finset.univ fun i : Fin 16 => semVal (gateAt d (coreOf c) (subOf i)) 0)
              ∗ ownBufs (S d (coreOf c)))))
  rw [big_three (fun i => args m d (leaf 4 (qC c) i)), big_four (fun i => args m d (leaf 4 (qC c) i)), hs, ownBufs_S]
  have ha := args_leaves m d 4 (qC c)
  iintro ⟨⟨%ιw, #Hwm⟩, ⟨Ha, Ho⟩, ⟨⟨%f, Hsh⟩, Hrest⟩, -, Hsems, Hts⟩
  imod (wshare_deal (emb := EW) (t := tbl m d (coreOf c)) (Set.mem_univ ιw) 4 f) $$ [Hsh] with Hsh
  · isplitr; · iexact Hwm
    iexact Hsh
  imodintro
  isplitl [Hts]; · iexact Hts
  isplitl [Ha Ho Hsh]
  · isplitl [Ha]; · iapply (Entails.of_eq ha); iexact Ha
    isplitl [Ho]; · iexact Ho
    iexact Hsh
  isplitl [Hsems]
  · isplitr; · iexists ιw; iexact Hwm
    isplitr; · iempintro
    iexact Hsems
  iintro ⟨⟨⟨Ha, Ho, Hr⟩, Hb⟩, -⟩
  isplitl [Ha Ho Hb]
  · isplitr [Hb]; swap; · iexact Hb
    isplitl [Ha]; · iapply (Entails.of_eq ha.symm); iexact Ha
    iexact Ho
  isplitl [Hr]
  · iexists (tbl m d (coreOf c)); iapply (Entails.of_eq (shared_leaves m d (coreOf c)).symm); iexact Hr
  iexact Hrest

end Cert.Proof.Run

end
-- ==== Proof.Deal.lean ====
/-
  The launch: the ghost state funded, the invariants allocated, and what each thread is dealt.
-/
module

public import proofs.«01_k».proof.Proof.Setup

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ (UU F) ℕ

variable (m : (ℓ : Loc nD τ sig) → Buf (Elt F) ℓ)

/-! ## The cells and the tokens funded -/

/-- A subcore of a device. -/
abbrev Tile : Type := Dev nD × Fin τ.nSC × Fin τ.nSub
/-- A SparseCore of a device. -/
abbrev Core : Type := Dev nD × Fin τ.nSC
/-- A subcore's barrier cell. -/
abbrev cellOf (x : Tile) : GSem nD τ sig := gateAt x.1 x.2.1 x.2.2

/-- Different subcores have different barrier cells. -/
theorem cellOf_injective : Function.Injective cellOf := by
  rintro ⟨d, c, i⟩ ⟨d', c', i'⟩ e
  obtain ⟨rfl, h⟩ := Prod.mk.inj (Prod.mk.inj e).1
  obtain ⟨rfl, rfl⟩ := Proc.scVector.inj h
  rfl

/-- The barrier cells. -/
def bCells : Finset (GSem nD τ sig) := Finset.univ.image cellOf

/-- For round `r`: subcore `i`'s token in subcore `j`'s cell, for every two subcores of a SparseCore. -/
def pairToks (r : ℕ) : Finset (GSem nD τ sig × ℕ × ℕ) :=
  (Finset.univ : Finset (Tile × Fin 16)).image fun x => (gateAt x.1.1 x.1.2.1 x.2, r, x.1.2.2.val)
/-- Every subcore's deposit token, in its own cell. -/
def depToks : Finset (GSem nD τ sig × ℕ × ℕ) := (Finset.univ : Finset Tile).image fun x => (cellOf x, 2, 0)
/-- The barrier's own tokens, the exchange's and the deposit tokens. -/
def bToks : Finset (GSem nD τ sig × ℕ × ℕ) := pairToks 0 ∪ (pairToks 1 ∪ depToks)

/-- The launch element: the handshakes', the barrier cells', the write mode's, no transfer under way. -/
def u₀ : UU F := (initOf (K (F := F)).hsCells (K (F := F)).hsToks, (initOf bCells bToks, (wm₀ nD τ sig (Elt F), 1)))

/-- The tokens of the pairs of subcores of a core are, for each subcore, one token at each cell of its core. -/
theorem pairToks_eq (r : ℕ) : (bigSep (pairToks r) fun x => (dutyTok EB x.1 x.2.1 x.2.2 : sProp 𝕄))
    = bigSep Finset.univ fun x : Tile => bigSep Finset.univ fun j : Fin 16 => dutyTok EB (gateAt x.1 x.2.1 j) r x.2.2.val := by
  unfold pairToks
  rw [SparseCore.bigSep_image_of_injOn, bigSep_univ_prod]
  rintro ⟨⟨d, c, i⟩, j⟩ - ⟨⟨d', c', i'⟩, j'⟩ - e
  obtain ⟨e1, e2⟩ := Prod.mk.inj e
  obtain ⟨rfl, h⟩ := Prod.mk.inj (Prod.mk.inj e1).1
  obtain ⟨rfl, rfl⟩ := Proc.scVector.inj h
  obtain rfl : i = i' := Fin.ext (Prod.mk.inj e2).2
  rfl

/-- The deposit tokens are one for each subcore. -/
theorem depToks_eq : (bigSep depToks fun x => (dutyTok EB x.1 x.2.1 x.2.2 : sProp 𝕄)) = bigSep Finset.univ fun x : Tile => xdep x.1 x.2.1 x.2.2 := by
  unfold depToks
  exact SparseCore.bigSep_image_of_injOn (fun a _ b _ e => cellOf_injective (Prod.mk.inj e).1) _

/-- The tokens funded, sorted. -/
theorem bToks_eq : (bigSep bToks fun x => (dutyTok EB x.1 x.2.1 x.2.2 : sProp 𝕄))
    = iprop((bigSep Finset.univ fun x : Tile => bigSep Finset.univ fun j : Fin 16 => dutyTok EB (gateAt x.1 x.2.1 j) 0 x.2.2.val)
      ∗ (bigSep Finset.univ fun x : Tile => bigSep Finset.univ fun j : Fin 16 => xtok x.1 x.2.1 x.2.2 j)
      ∗ bigSep Finset.univ fun x : Tile => xdep x.1 x.2.1 x.2.2) := by
  have round {r : ℕ} {x : GSem nD τ sig × ℕ × ℕ} (h : x ∈ pairToks r) : x.2.1 = r := by
    obtain ⟨y, -, rfl⟩ := Finset.mem_image.mp h; rfl
  have round2 {x : GSem nD τ sig × ℕ × ℕ} (h : x ∈ depToks) : x.2.1 = 2 := by
    obtain ⟨y, -, rfl⟩ := Finset.mem_image.mp h; rfl
  have h1 : Disjoint (pairToks 1) depToks := Finset.disjoint_left.mpr fun x h h' => absurd ((round h).symm.trans (round2 h')) (by decide)
  have h0 : Disjoint (pairToks 0) (pairToks 1 ∪ depToks) := Finset.disjoint_left.mpr fun x h h' => by
    rcases Finset.mem_union.mp h' with h' | h'
    · exact absurd ((round h).symm.trans (round h')) (by decide)
    · exact absurd ((round h).symm.trans (round2 h')) (by decide)
  unfold bToks
  rw [SparseCore.bigSep_union' h0, SparseCore.bigSep_union' h1, pairToks_eq, pairToks_eq, depToks_eq]

/-- The launch element's three parts. -/
theorem u₀_parts (a : UH) (b : UB) (w : UW F) : (ownU ((a, (b, (w, 1))) : UU F) : sProp 𝕄) ⊢ iprop(BI.own (EH a) ∗ BI.own (EB b) ∗ ownU (EW w)) := by
  refine (BI.own_op_elim ((uEmb (nD := nD) (sig := sig) (Ix := HIx 1) (Val := Elt F) (Name := ℕ) (U := UU F) (Lvl := ℕ)).toEmb.op_of_mem
    (Prod.mk_mem_op (URA.mem_op_one a) (URA.mem_one_op (b, (w, (1 : Counters))))))).trans (BI.sep_mono_r ?_)
  exact BI.own_op_elim ((uEmb (nD := nD) (sig := sig) (Ix := HIx 1) (Val := Elt F) (Name := ℕ) (U := UU F) (Lvl := ℕ)).toEmb.op_of_mem
    (Prod.mk_mem_op (URA.mem_op_one (1 : UH)) (Prod.mk_mem_op (URA.mem_op_one b) (URA.mem_one_op (w, (1 : Counters))))))

/-! ## The cells' counters, invariants and credit -/

/-- A big conjunction over the barrier cells is one over the subcores. -/
theorem bCells_eq (Φ : GSem nD τ sig → sProp 𝕄) : bigSep bCells Φ = bigSep Finset.univ fun x : Tile => Φ (cellOf x) :=
  SparseCore.bigSep_image_of_injOn (fun _ _ _ _ e => cellOf_injective e) Φ

/-- Every barrier semaphore at zero, among the semaphores the launch hands over. -/
theorem bar_sems : ((K (F := F)).freeOn (· ∈ bCells) : sProp 𝕄) ⊢ bigSep bCells fun g => semVal g 0 := by
  unfold SparseCore.Cfg.freeOn
  rw [bCells_eq]
  refine sep_elim_right.trans (big_mono fun x _ => ?_)
  exact bigSep_elim (Φ := fun sm : SemLoc sig => (semVal (V x.1 x.2.1 x.2.2, sm) 0 : sProp 𝕄)) (Finset.mem_filter.mpr
    ⟨Finset.mem_erase.mpr ⟨fun h => gate_apart (F := F) (SemLoc.reg.inj h), Finset.mem_filter.mpr ⟨Finset.mem_univ _, by decide⟩⟩,
      Finset.mem_image_of_mem cellOf (Finset.mem_univ x)⟩)

/-- The barrier cells' invariants. -/
theorem bar_invs : iprop((bigSep bCells fun g => (semVal g 0 : sProp 𝕄)) ∗ bigSep bCells fun g => roundState EB (gateRd (F := F)) g 0)
    ⊢ |={Set.univ}=> iprop(∃ κ : GSem nD τ sig → ℕ, bigSep bCells fun g => cellInv EB (gateRd (F := F)) (κ g) g) := by
  refine (Rounds.bodies_intro EB (gateRd (F := F)) bCells).trans ((inv_alloc_family bCells (Rounds.body EB (gateRd (F := F))) ∅ (E := Set.univ)).trans ?_)
  iintro >⟨%κ, -, H⟩
  imodintro; iexists κ; iexact H

/-- The exchanges' invariants, none at the name given: every exchange starts with all its tokens. -/
theorem xchg_invs (ιw : ℕ) : (bigSep Finset.univ fun x : Tile => bigSep Finset.univ fun j : Fin 16 => xtok x.1 x.2.1 x.2.2 j : sProp 𝕄)
    ⊢ |={Set.univ}=> iprop(∃ κ : Core → ℕ, ⌜∀ x, κ x ≠ ιw⌝ ∗ bigSep Finset.univ fun x : Core => inv (κ x) (xchg m x.1 x.2)) := by
  have start : (bigSep Finset.univ fun x : Tile => bigSep Finset.univ fun j : Fin 16 => xtok x.1 x.2.1 x.2.2 j : sProp 𝕄)
      ⊢ bigSep Finset.univ fun x : Core => xchg m x.1 x.2 := by
    rw [bigSep_univ_prod, bigSep_univ_prod (fun x : Core => (xchg m x.1 x.2 : sProp 𝕄))]
    refine big_mono fun d _ => ?_
    rw [bigSep_univ_prod]
    refine big_mono fun c _ => ?_
    unfold xchg exch
    iintro H; ileft
    iapply (big_mono (Φ := fun i : Fin 16 => bigSep Finset.univ fun j : Fin 16 => xtok (F := F) d c i j) fun i _ => Laws.or_intro_l)
    iexact H
  refine start.trans ((inv_alloc_family (Finset.univ : Finset Core) (fun x => xchg m x.1 x.2) {ιw} (E := Set.univ)).trans ?_)
  iintro >⟨%κ, %h, H⟩
  imodintro; iexists κ; isplitr
  · ipureintro; exact fun x e => h.2 x (Finset.mem_univ x) (Finset.mem_singleton.mpr e)
  iexact H

/-- `n` units one at a time. -/
theorem sum_tally (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

/-- The credit for the barrier's debts, each subcore that of its own cell. -/
theorem bar_creds : ((P (F := F) m).oxCred : sProp 𝕄) ⊢ bigSep Finset.univ fun x : Tile => cred (tallyAt (cellOf x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun x : Tile => (cred (tallyAt (cellOf x) (some 0) (grid0.bound 1)) : sProp 𝕄))]
  refine big_mono fun d _ => ?_
  rw [bigSep_univ_prod, bigSep_univ_prod (fun x : Fin τ.nSC × Fin τ.nSub => (cred (tallyAt (cellOf (d, x)) (some 0) (grid0.bound 1)) : sProp 𝕄))]
  refine big_mono fun c _ => ?_
  have hox (i : Fin τ.nSub) : (P (F := F) m).oxFrom 0 (V d c i) = ∑ j : Fin (grid0.bound 1), tallyAt (gateAt d c (j.castLE hsub0)) (some 0) 1 := by
    show (P (F := F) m).oxFrom (0 : Fin 1).val (V d c i) = _
    rw [(P m).oxFrom_step, (P m).oxFrom_end _ (n := (0 : Fin 1).val + 1) le_rfl, add_zero]; rfl
  dsimp only
  simp only [hox]
  rw [show (bigSep Finset.univ fun i : Fin τ.nSub => (cred (∑ j : Fin (grid0.bound 1), tallyAt (gateAt d c (j.castLE hsub0)) (some 0) 1) : sProp 𝕄))
      = bigSep Finset.univ fun i : Fin τ.nSub => bigSep Finset.univ fun j : Fin (grid0.bound 1) => cred (tallyAt (gateAt d c (j.castLE hsub0)) (some 0) 1) from
        bigSep_congr fun i _ => SparseCore.Cfg.cred_finsum _ _, bigSep_univ_comm]
  refine big_mono fun j _ => ?_
  rw [← SparseCore.Cfg.cred_finsum, sum_tally]; exact .rfl

/-! ## What each thread is dealt -/

/-- A big conjunction of nothing is nothing. -/
theorem big_emp {I : Type} (s : Finset I) : (bigSep s fun _ => iprop(emp) : sProp 𝕄) = iprop(emp) := bigSep_emp_const s

/-- A persistent resource goes to every conjunct. -/
theorem big_deal {I : Type} [DecidableEq I] (R : sProp 𝕄) [BI.Persistent R] (s : Finset I) (Φ : I → sProp 𝕄) :
    iprop(R ∗ bigSep s Φ) ⊢ bigSep s fun i => iprop(R ∗ Φ i) :=
  bigSep_with_persistent fun _ _ => .rfl

/-- What all the threads are dealt alike: the barrier cells' invariants, that each has reached round 0, the write mode's
    invariant and the exchanges'. -/
abbrev known : sProp 𝕄 :=
  iprop((∃ κ : GSem nD τ sig → ℕ, bigSep Finset.univ fun x : Tile => cellInv EB (gateRd (F := F)) (κ (cellOf x)) (cellOf x))
    ∗ (bigSep Finset.univ fun x : Tile => reached EB (cellOf x) 0)
    ∗ ∃ ιw : ℕ, wmInv EW ιw ∗ ∃ κ : Core → ℕ, ⌜∀ x, κ x ≠ ιw⌝ ∗ bigSep Finset.univ fun x : Core => inv (κ x) (xchg m x.1 x.2))

/-- What a subcore is dealt of its own: its position, its barrier tokens, its credit, its deposit token. -/
abbrev own₁ (x : Tile) : sProp 𝕄 :=
  iprop(atPos EB (cellOf x) 0 ∅ 0 ∗ (bigSep Finset.univ fun j : Fin 16 => dutyTok EB (gateAt x.1 x.2.1 j) 0 x.2.2.val)
    ∗ cred (tallyAt (cellOf x) (some 0) (grid0.bound 1)) ∗ xdep x.1 x.2.1 x.2.2)

/-- A persistent family, at the cells of one SparseCore. -/
theorem big_core (d : Dev nD) (c : Fin τ.nSC) (Φ : GSem nD τ sig → sProp 𝕄) [∀ g, BI.Persistent (Φ g)] :
    (bigSep Finset.univ fun x : Tile => Φ (cellOf x)) ⊢ bigSep Finset.univ fun j : Fin (grid0.bound 1) => Φ (gateAt d c (j.castLE hsub0)) := by
  iintro #H
  iapply (big_mono (Φ := fun _ : Fin (grid0.bound 1) => iprop((bigSep Finset.univ fun x : Tile => Φ (cellOf x)) ∗ emp)) fun j _ =>
    sep_elim_left.trans (big_get ((d, c, j.castLE hsub0) : Tile) fun x => Φ (cellOf x)))
  iapply (big_deal (I := Fin (grid0.bound 1)) (bigSep Finset.univ fun x : Tile => Φ (cellOf x)) Finset.univ fun _ => iprop(emp))
  isplitr; · iexact H
  rw [big_emp]; iempintro

/-- Of those, a subcore's barrier kit and its part in the exchange. -/
theorem kit_made (x : Tile) : iprop(known m ∗ own₁ (F := F) x) ⊢ (iprop(gateKit x.1 x.2.1 x.2.2 ∗ xkit m x.1 x.2.1 x.2.2) : sProp 𝕄) := by
  iintro ⟨⟨⟨%κ, #Hinv⟩, #Hr, ⟨%ιw, #Hwm, ⟨%κx, %hne, #Hx⟩⟩⟩, Hat, Htok, Hcred, Hdep⟩
  unfold gateKit xkit
  isplitr [Hdep]
  · isplitl [Hat]; · iexact Hat
    isplitl [Hcred]; · iexact Hcred
    isplitl [Htok]; · iexact Htok
    isplitr
    · iapply (big_core x.1 x.2.1 fun g => reached EB g 0); iexact Hr
    iexists κ
    iapply (big_core x.1 x.2.1 fun g => cellInv EB (gateRd (F := F)) (κ g) g); iexact Hinv
  isplitr
  · iexists ιw, κx (x.1, x.2.1)
    isplitr; · ipureintro; exact hne _
    isplitr; · iexact Hwm
    iapply (big_get ((x.1, x.2.1) : Core) fun y => inv (κx y) (xchg m y.1 y.2)); iexact Hx
  iexact Hdep

/-- Every thread has what it is dealt. -/
theorem dealt : iprop(known m ∗ bigSep Finset.univ fun x : Tile => own₁ (F := F) x)
    ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  iintro ⟨#Hk, Hown⟩
  isplitr
  · iapply (big_mono (Φ := fun _ : Dev nD => iprop(emp)) (Ψ := fun d : Dev nD => bigSep Finset.univ fun q : Fin 1 => (P (F := F) m).x q (SparseCore.T d))
      fun d _ => Entails.of_eq (bigSep_univ_of_subsingleton (0 : Fin 1) (Φ := fun q : Fin 1 => (P (F := F) m).x q (SparseCore.T d))).symm)
    rw [big_emp]; iempintro
  isplitr
  · iapply (big_mono (Φ := fun _ : Core => iprop(known m ∗ emp)) (Ψ := fun x : Core => bigSep Finset.univ fun q : Fin 1 => (P (F := F) m).x q (S x.1 x.2)) fun x _ => by
      refine BIBase.Entails.trans ?_ (Entails.of_eq (bigSep_univ_of_subsingleton (0 : Fin 1) (Φ := fun q : Fin 1 => (P (F := F) m).x q (S x.1 x.2))).symm)
      show _ ⊢ iprop(∃ ιw : ℕ, wmInv EW ιw)
      iintro ⟨⟨-, -, ⟨%ιw, #Hwm, -⟩⟩, -⟩
      iexists ιw; iexact Hwm)
    iapply (big_deal (known m) Finset.univ fun _ : Core => iprop(emp))
    isplitr; · iexact Hk
    rw [big_emp]; iempintro
  iapply (big_mono (Φ := fun x : Tile => iprop(known m ∗ own₁ (F := F) x)) (Ψ := fun x : Tile => bigSep Finset.univ fun q : Fin 1 => (P (F := F) m).x q (V x.1 x.2.1 x.2.2))
    fun x _ => (kit_made m x).trans (Entails.of_eq (bigSep_univ_of_subsingleton (0 : Fin 1) (Φ := fun q : Fin 1 => (P (F := F) m).x q (V x.1 x.2.1 x.2.2))).symm))
  iapply (big_deal (known m) Finset.univ fun x : Tile => own₁ (F := F) x)
  isplitr; · iexact Hk
  iexact Hown

/-- The launch: the handshakes' element set aside, the invariants allocated, the kits dealt. -/
theorem hu₀ (ρ : Dev nD → PrngReg) : iprop(ownU (u₀ (F := F)) ∗ (P (F := F) m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (u₀_parts _ _ _) $$ Hu
  icases H with ⟨HH, HB, HW⟩
  imod (Rounds.fund EB (gateRd (F := F)) bCells bToks) $$ HB with ⟨Hst, #Hr, Hat, Htok⟩
  ihave Hsems := (bar_sems (F := F)) $$ Hfree
  imod (bar_invs (F := F)) $$ [Hsems Hst] with ⟨%κ, #Hinv⟩
  · isplitl [Hsems] <;> iassumption
  imod (wmInv_alloc (emb := EW) (⟨m, fun _ => 0, ρ⟩ : MemSt nD τ sig (Elt F)) ∅ (E := Set.univ)) $$ HW with ⟨%ιw, -, #Hwm⟩
  ihave Htok' := (Entails.of_eq (bToks_eq (F := F))) $$ Htok
  icases Htok' with ⟨Ht0, Ht1, Ht2⟩
  imod (xchg_invs m ιw) $$ Ht1 with ⟨%κx, %hne, #Hx⟩
  ihave Hcred' := (bar_creds m) $$ Hcred
  ihave Hinv' := (Entails.of_eq (bCells_eq (F := F) fun g => cellInv EB (gateRd (F := F)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  imodintro
  isplitl [HH]; · iexact HH
  isplitr; · rw [big_emp]; iempintro
  iapply (dealt m)
  isplitr
  · isplitr; · iexists κ; iexact Hinv'
    isplitr; · iexact Hr'
    iexists ιw
    isplitr; · iexact Hwm
    iexists κx
    isplitr; · ipureintro; exact hne
    iexact Hx
  unfold own₁
  rw [bigSep_sep', bigSep_sep', bigSep_sep']
  isplitl [Hat']; · iexact Hat'
  isplitl [Ht0]; · iexact Ht0
  isplitl [Hcred']; · iexact Hcred'
  iexact Ht2

end Cert.Proof.Run

end
-- ==== Proof.Launch.lean ====
/-
  @main on the TensorCore and the whole run.
-/
module

public import proofs.«01_k».proof.Proof.Obl
public import proofs.«01_k».proof.Proof.Split
public import proofs.«01_k».proof.Proof.Deal

@[expose] public section

noncomputable section

namespace Cert.Proof.Run

open Cert.KernelIdeal Cert.KernelIdeal.Gen Cert.Proof.Ghost Cert.Proof.Value

open Idealize.ShloMosaic Idealize.ShloMosaic.ShareLeaves
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within nullary_result unary_result binary_result nullary_result_ne binary_result_ne after_cons after_nil)
open Idealize.ShloMosaic.Tactic

variable {F : FTy → Type} [FloatOps F]

local notation "𝕄" => MT nD τ sig (HIx 1) (Elt F) ℕ (UU F) ℕ

variable (m : (ℓ : Loc nD τ sig) → Buf (Elt F) ℓ) (ρ : Dev nD → PrngReg)

/-! ## The result's rows -/

/-- A task's cells of the result are its row's. -/
theorem oSet_eq (w : Fin 32) : oSet w = (oRow w).set := by
  show ((View.whole (main_v0_scv : Ref sig .scVector)).slice (oRow w)).set = _
  rw [View.set_slice]; exact Finset.map_refl
/-- Different tasks' rows do not meet. -/
theorem oSet_apart : ∀ w ∈ (Finset.univ : Finset (Fin 32)), ∀ w' ∈ (Finset.univ : Finset (Fin 32)), w ≠ w' → Disjoint (oSet w) (oSet w') := fun w _ w' _ h => by
  rw [oSet_eq, oSet_eq]; exact Rect.part_disjoint hdiv h
/-- The rows make up the whole result. -/
theorem oSet_all : (Finset.univ : Finset (Fin 32)).biUnion oSet = Finset.univ := by
  refine Eq.trans (Finset.biUnion_congr rfl fun w _ => oSet_eq w) ?_
  exact Rect.biUnion_part hdiv

/-- Cores and tasks number the rows. -/
def rowOf : Fin 2 × Fin 16 ≃ Fin 32 := Equiv.ofBijective (fun x => wid x.1 x.2) (by decide)

/-- The result is its rows, core by core and task by task. -/
theorem out_rows (d : Dev nD) (f : Buf (Elt F) (oLoc d)) :
    (oLoc d ↦{fullShare} f : sProp 𝕄) = bigSep Finset.univ fun c : Fin 2 => bigSep Finset.univ fun i : Fin 16 => oPts d (wid c i) f := by
  have h : (oLoc d ↦[Finset.univ]{fullShare} f : sProp 𝕄) = bigSep Finset.univ fun w : Fin 32 => oPts d w f := by
    rw [← pointsTo_biUnion Finset.univ (ℓ := oLoc d) oSet oSet_apart, oSet_all]; try rfl
  refine h.trans ?_
  rw [bigSep_univ_equiv rowOf, bigSep_univ_prod]; rfl

/-- The arguments are the two cores' halves. -/
theorem args_halves (d : Dev nD) : (args m d fullShare : sProp 𝕄) = bigSep Finset.univ fun c : Fin 2 => args m d (qC (F := F) c) := args_leaves m d 1 fullShare

/-- What the call takes. -/
theorem st_all (d : Dev nD) : (bigSep Finset.univ fun c : Fin ((K (F := F)).nCore 0) => (P m).st 0 d c) = iprop(args m d fullShare ∗ oLoc d ↦{fullShare} m (oLoc d)) := by
  rw [args_halves, out_rows]
  show (bigSep Finset.univ fun c : Fin 2 => iprop(args m d (qC (F := F) c) ∗ bigSep Finset.univ fun i : Fin 16 => oPts d (wid c i) (m (oLoc d)))) = _
  exact bigSep_sep' ..
/-- What it brings back. -/
theorem dn_all (d : Dev nD) : (bigSep Finset.univ fun c : Fin ((K (F := F)).nCore 0) => (P m).dn 0 d c)
    = iprop((args m d fullShare ∗ oLoc d ↦{fullShare} outV m d) ∗ bigSep Finset.univ fun c : Fin 2 => bars d c) := by
  rw [args_halves, out_rows]
  show (bigSep Finset.univ fun c : Fin 2 => iprop((args m d (qC (F := F) c) ∗ bigSep Finset.univ fun i : Fin 16 => oPts d (wid c i) (outV m d)) ∗ bars d c)) = _
  rw [bigSep_sep' (Φ := fun c : Fin 2 => iprop(args m d (qC (F := F) c) ∗ bigSep Finset.univ fun i : Fin 16 => oPts d (wid c i) (outV m d)))]
  exact congrArg (fun X : sProp 𝕄 => iprop(X ∗ bigSep Finset.univ fun c : Fin 2 => bars d c)) (bigSep_sep' ..)

/-! ## @main on the TensorCore -/

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev r0 : DevRef τ sig := Proc.devRef .tc (main_v0 : Ref sig .tc)
abbrev k0 : DevRef τ sig := Proc.devRef .tc (main_cst : Ref sig .tc)
abbrev r1 : DevRef τ sig := Proc.devRef .tc (main_v1 : Ref sig .tc)
abbrev k1 : DevRef τ sig := Proc.devRef .tc (main_cst_0 : Ref sig .tc)
abbrev r2 : DevRef τ sig := Proc.devRef .tc (main_v2 : Ref sig .tc)

/-- The zero the sum starts from, the sum, the batch size, the quotient. -/
abbrev op₁ : HloOp τ sig (Elt F) := StableHlo.nullary main_cst (constant S_ .f32 0x00000000#32)
abbrev op₂ : HloOp τ sig (Elt F) := StableHlo.binary main_v0 main_cst main_v1 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev op₃ : HloOp τ sig (Elt F) := StableHlo.nullary main_cst_0 (constant S_ .f32 0x46800000#32)
abbrev op₄ : HloOp τ sig (Elt F) := StableHlo.binary main_v1 main_cst_0 main_v2 (Host.divf : (⟨S_, .f32⟩ : BufTy).Contents (Elt F) → (⟨S_, .f32⟩ : BufTy).Contents (Elt F) → (⟨S_, .f32⟩ : BufTy).Contents (Elt F))

/-- The arrays the four operations run over. -/
abbrev tail : Finset (DevRef τ sig) := {r0, k0, r1, k1, r2}

/-- Held one by one. -/
theorem held_tail (d : Dev nD) (W : Valuation τ sig (Elt F)) : (held (SparseCore.T d) tail W : sProp 𝕄)
    = iprop((oLoc d ↦{fullShare} W r0) ∗ ((SparseCore.T d).loc main_cst ↦{fullShare} W k0) ∗ ((SparseCore.T d).loc main_v1 ↦{fullShare} W r1)
        ∗ ((SparseCore.T d).loc main_cst_0 ↦{fullShare} W k1) ∗ (SparseCore.T d).loc main_v2 ↦{fullShare} W r2) := by
  unfold held tail
  rw [SparseCore.bigSep_insert' (by decide), SparseCore.bigSep_insert' (by decide), SparseCore.bigSep_insert' (by decide), SparseCore.bigSep_insert' (by decide), bigSep_singleton]

/-- The TensorCore's arrays. -/
theorem arrays_eq (d : Dev nD) (W : (b : Ref sig .tc) → Buf (Elt F) ((d.tc : Thread nD τ).loc b)) : (unscopedBufs d W : sProp 𝕄)
    = iprop((latLoc d ↦{fullShare} W main_arg0) ∗ (labLoc d ↦{fullShare} W main_arg1) ∗ (cenLoc d ↦{fullShare} W main_arg2) ∗ (oLoc d ↦{fullShare} W main_v0)
        ∗ ((SparseCore.T d).loc main_cst ↦{fullShare} W main_cst) ∗ ((SparseCore.T d).loc main_v1 ↦{fullShare} W main_v1)
        ∗ ((SparseCore.T d).loc main_cst_0 ↦{fullShare} W main_cst_0) ∗ (SparseCore.T d).loc main_v2 ↦{fullShare} W main_v2) := by
  unfold unscopedBufs
  rw [show (Finset.univ.filter fun b : Ref sig .tc => ¬ b.isScoped) = {main_arg0, main_arg1, main_arg2, main_v0, main_cst, main_v1, main_cst_0, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays after the call. -/
def V1 (d : Dev nD) : Valuation τ sig (Elt F) := Function.update (fun b => m (d, b)) r0 (outV m d)
/-- The arrays at the end. -/
abbrev V5 (d : Dev nD) : Valuation τ sig (Elt F) := (op₄ (F := F)).result ((op₃ (F := F)).result ((op₂ (F := F)).result ((op₁ (F := F)).result (V1 m d))))

/-- After the call the kernel's result holds the partial sums. -/
theorem V1_out (d : Dev nD) : V1 m d r0 = outV m d := Function.update_self _ _ _
/-- After the call every other buffer is as it was. -/
theorem V1_other (d : Dev nD) {b : DevRef τ sig} (h : b ≠ r0) : V1 m d b = m (d, b) := Function.update_of_ne h _ _

/-- @main's first operation after the call touches its tail's buffers only. -/
theorem op₁_tail : (op₁ (F := F)).bufs ⊆ tail := show ({k0} : Finset (DevRef τ sig)) ⊆ tail by decide
/-- So does the second. -/
theorem op₂_tail : (op₂ (F := F)).bufs ⊆ tail := show ({r0, k0, r1} : Finset (DevRef τ sig)) ⊆ tail by decide
/-- So does the third. -/
theorem op₃_tail : (op₃ (F := F)).bufs ⊆ tail := show ({k1} : Finset (DevRef τ sig)) ⊆ tail by decide
/-- So does the fourth. -/
theorem op₄_tail : (op₄ (F := F)).bufs ⊆ tail := show ({r1, k1, r2} : Finset (DevRef τ sig)) ⊆ tail by decide

/-- @main's result. -/
abbrev mLoc (d : Dev nD) : Loc nD τ sig := (SparseCore.T d).loc main_v2
/-- What @main leaves in its result: the mean. -/
def meanV (d : Dev nD) : Buf (Elt F) (mLoc d) :=
  (Host.divf (Host.reduceAdd (outV m d : (⟨S32x16, .f32⟩ : BufTy).Contents (Elt F)) (constant S_ .f32 0x00000000#32) reducesTo_S32x16_S_d0_1 h_S_) (constant S_ .f32 0x46800000#32)
    : (⟨S_, .f32⟩ : BufTy).Contents (Elt F))

/-- After the last operation @main's result holds the mean. -/
theorem V5_mean (d : Dev nD) : V5 m d r2 = meanV m d := by
  show StableHlo.after [op₁ (F := F), op₂, op₃, op₄] (V1 m d) r2 = _
  after_results
  rw [show V1 m d (Proc.devRef .tc main_v0) = outV m d from V1_out m d]
  rfl

/-- What @main leaves the claims: the arguments as they were, the mean, the barrier semaphores at zero. -/
abbrev FIN (d : Dev nD) : sProp 𝕄 :=
  iprop(args m d fullShare ∗ (mLoc d ↦{fullShare} meanV m d) ∗ bigSep Finset.univ fun c : Fin 2 => bars d c)

/-- @main: the call, then the sum and the quotient over what it brings. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨H0, H1, H2, Ho, Hk0, Hr1, Hk1, Hr2⟩, Hts, -⟩, -⟩
  iapply ((K (F := F)).wp_run (D (F := F)) 𝒱 (EH := EH) (P := P m) κ d 0) $$ [Hst H0 H1 H2 Ho Hk0 Hr1 Hk1 Hr2 Hb Hts]
  isplitr; · iexact Hctx
  isplitl [Hst]; · iexact Hst
  isplitl [H0 H1 H2 Ho]
  · rw [st_all]
    isplitl [H0 H1 H2]
    · isplitl [H0]; · iexact H0
      isplitl [H1]; · iexact H1
      iexact H2
    iexact Ho
  iintro ⟨Hst, Hdn⟩
  ihave Hdn' := (Entails.of_eq (dn_all m d)) $$ Hdn
  icases Hdn' with ⟨⟨Ha, Ho⟩, Hbars⟩
  iapply (wp_hlo_within 𝒱 (SparseCore.T d) none Set.univ (op := op₁) (S := tail) op₁_tail (V := V1 m d)) $$ [Hb Ho Hk0 Hr1 Hk1 Hr2]
  · isplitl [Hb]; · iexact Hb
    rw [held_tail, V1_out, V1_other m d (b := k0) (by decide), V1_other m d (b := r1) (by decide), V1_other m d (b := k1) (by decide), V1_other m d (b := r2) (by decide)]
    isplitl [Ho]; · iexact Ho
    isplitl [Hk0]; · iexact Hk0
    isplitl [Hr1]; · iexact Hr1
    isplitl [Hk1]; · iexact Hk1
    iexact Hr2
  iintro ⟨Hb, Hheld⟩
  rw [wp_ret]; imodintro
  iapply (wp_hlo_within 𝒱 (SparseCore.T d) none Set.univ (op := op₂) (S := tail) op₂_tail (V := (op₁ (F := F)).result (V1 m d))) $$ [Hb Hheld]
  · isplitl [Hb] <;> iassumption
  iintro ⟨Hb, Hheld⟩
  rw [wp_ret]; imodintro
  iapply (wp_hlo_within 𝒱 (SparseCore.T d) none Set.univ (op := op₃) (S := tail) op₃_tail (V := (op₂ (F := F)).result ((op₁ (F := F)).result (V1 m d)))) $$ [Hb Hheld]
  · isplitl [Hb] <;> iassumption
  iintro ⟨Hb, Hheld⟩
  rw [wp_ret]; imodintro
  iapply (wp_hlo_within 𝒱 (SparseCore.T d) none Set.univ (op := op₄) (S := tail) op₄_tail (V := (op₃ (F := F)).result ((op₂ (F := F)).result ((op₁ (F := F)).result (V1 m d))))) $$ [Hb Hheld]
  · isplitl [Hb] <;> iassumption
  iintro ⟨Hb, Hheld⟩
  ihave Hh := (Entails.of_eq (held_tail d (V5 m d))) $$ Hheld
  rw [V5_mean]
  icases Hh with ⟨-, -, -, -, Hr2⟩
  rw [wp_ret]; imodintro; imodintro
  isplitl [Hst]; · iexact Hst
  isplitr [Hb Hts]
  · isplitl [Ha]; · iexact Ha
    isplitl [Hr2]; · iexact Hr2
    iexact Hbars
  isplitl [Hb] <;> iassumption

/-! ## What the end state shows -/

/-- The arguments unchanged, the mean in the result, and the barrier semaphores at zero. -/
def fq (d : Dev nD) (s' : Phys nD τ sig (Elt F)) : Prop :=
  (s'.mem.mem (latLoc d) = m (latLoc d) ∧ s'.mem.mem (labLoc d) = m (labLoc d) ∧ s'.mem.mem (cenLoc d) = m (cenLoc d))
    ∧ s'.mem.mem (mLoc d) = meanV m d ∧ ∀ (c : Fin 2) (i : Fin 16), s'.mem.sem (gateAt d (coreOf (F := F) c) (subOf (F := F) i)) = 0

/-- A whole array held is the array the state has. -/
theorem read_whole (s' : Phys nD τ sig (Elt F)) (ℓ : Loc nD τ sig) (f : Buf (Elt F) ℓ) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- One barrier semaphore of a device's. -/
theorem bars_at (d : Dev nD) (c : Fin 2) (i : Fin 16) :
    (bigSep Finset.univ fun c : Fin 2 => (bars d c : sProp 𝕄)) ⊢ semVal (gateAt d (coreOf (F := F) c) (subOf (F := F) i)) 0 :=
  (bigSep_elim (Φ := fun c : Fin 2 => (bars d c : sProp 𝕄)) (Finset.mem_univ c)).trans
    (bigSep_elim (Φ := fun i : Fin 16 => (semVal (gateAt d (coreOf (F := F) c) (subOf (F := F) i)) 0 : sProp 𝕄)) (Finset.mem_univ i))

/-- The final resources show, of the final memory, what is claimed of it. -/
theorem hfin (d : Dev nD) (s' : Phys nD τ sig (Elt F)) : iprop(FIN m d ∗ SI s') ⊢ (⌜fq m d s'⌝ : sProp 𝕄) := fun x hx =>
  ⟨⟨((sep_mono_left (sep_elim_left.trans sep_elim_left)).trans (read_whole s' _ _)) x hx,
      ((sep_mono_left (sep_elim_left.trans (sep_elim_right.trans sep_elim_left))).trans (read_whole s' _ _)) x hx,
      ((sep_mono_left (sep_elim_left.trans (sep_elim_right.trans sep_elim_right))).trans (read_whole s' _ _)) x hx⟩,
    ((sep_mono_left (sep_elim_right.trans sep_elim_left)).trans (read_whole s' _ _)) x hx,
    fun c i => ((sep_mono_left (sep_elim_right.trans (sep_elim_right.trans (bars_at d c i)))).trans (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2.2 c i

/-! ## The run -/

/-- Every run ends with the mean in the result, the arguments unchanged and every semaphore at zero. -/
def QC : PUnit × MemSt nD τ sig (Elt F) → Prop := fun r =>
  (∀ d : Dev nD, r.2.mem (mLoc d) = meanV m d ∧ r.2.mem (latLoc d) = m (latLoc d) ∧ r.2.mem (labLoc d) = m (labLoc d) ∧ r.2.mem (cenLoc d) = m (cenLoc d))
    ∧ r.2.sem = fun _ => 0

/-- Started with every label below 1000, every run ends, faultless and quiescent, with the arguments as they were and the mean in the result. -/
theorem run_main [∀ e, Nonempty (Elt F e)] (hl : ∀ d x, BitVec.toNat (m (labLoc d) x) < 1000) :
    θ_run (Cert.KernelIdeal.defs (F := F)) (Cert.KernelIdeal.threads (F := F)) ⟨m, fun _ => 0, ρ⟩ (QC m) :=
  SparseCore.Cfg.θ_run_sc_scoped₂_quiescent (K := K (F := F)) (D := D (F := F)) (𝒱 := 𝒱) (EH := EH) (P := P m) (σ := (K (F := F)).seq) (hA := hA m) facts v₀ v₀
    (fun q hq => match q with | 0 => nomatch hq)
    (fun q _ => match q with | 0 => (tileObl m hl facts).to₃ (fun _ _ _ _ => rfl))
    (fun _ _ _ _ _ h0 => absurd h0 (Nat.lt_irrefl 0))
    (fun q hk => match q with | 0 => vecSplit m hk)
    (fun q hk => (SparseCore.Cfg.SeqPartObl.of_none (Os := fun _ _ _ => 0) (Xs := fun _ _ _ => iprop(emp)) (Ys := fun _ _ _ => iprop(emp))
      (Option.isNone_iff_eq_none.mp (facts.noSeq q)) (fun _ _ => rfl) (fun _ _ => Entails.of_eq rfl)).to₃ hk)
    m ρ main (fun _ => iprop(emp)) (FIN m) (u₀ (F := F)) ((sep_mono_right (sep_mono_right sep_elim_left)).trans (hu₀ m ρ)) (hmain m ρ) (fq m) (hfin m) (QC m)
    (fun _ h hz => ⟨fun d => ⟨(h d).2.1, (h d).1⟩, hz⟩)

end Cert.Proof.Run

end
-- ==== Proof.Range.lean ====
/-
  What the precondition says of a label: it is the number of a row of the table.
-/
module

public import proofs.«01_k».proof.Defs
public import proofs.«01_k».proof.Proof.Gen.Pre_labels_in_range
public import Idealize.ShloMosaic.Lib.ReduceAll
public import Idealize.ShloMosaic.Lib.StableHlo.Predicate

@[expose] public section

noncomputable section

namespace Cert.Proof.Range

open Cert.Pre_labels_in_range Cert.Pre_labels_in_range.Gen
open Idealize.ShloMosaic

/-- A word between 0 and 999 read signed is that number read unsigned. -/
theorem word_small (a : BitVec 32) (h0 : IntOp.cmpi .sge a 0#32 = 1#1) (h1 : IntOp.cmpi .slt a 1000#32 = 1#1) : a.toNat < 1000 := by
  have e0 : (0#32 : BitVec 32).toInt ≤ a.toInt := by
    unfold IntOp.cmpi at h0
    simpa [BitVec.sle, StableHlo.Predicate.ofBool_eq_one_iff] using h0
  have e1 : a.toInt < (1000#32 : BitVec 32).toInt := by
    unfold IntOp.cmpi at h1
    simpa [BitVec.slt, StableHlo.Predicate.ofBool_eq_one_iff] using h1
  have z0 : (0#32 : BitVec 32).toInt = 0 := by decide
  have z1 : (1000#32 : BitVec 32).toInt = 1000 := by decide
  rw [z0] at e0
  rw [z1] at e1
  have := BitVec.toInt_eq_toNat_cond a
  have := a.isLt
  split at * <;> omega

/-- Where the precondition holds, every label names a row of the table. -/
theorem small {F : FTy → Type} [FloatOps F] (lat : FVec F S16384x128 .f32) (lab : IVec S16384 32) (cen : FVec F S1000x128 .f32)
    (h : fn (F := F) lat lab cen = fun _ => 1#1) (x : S16384.Idx) : (lab x).toNat < 1000 := by
  haveI : Subsingleton S_.Idx := ⟨fun a b => funext fun i => i.elim0⟩
  have hb := Host.reduce_andi_all _ _ _ _ _ (congrFun h fun i => i.elim0) x
  have hs : IntOp.cmpi .sge (lab x) 0#32 = 1#1 ∧ IntOp.cmpi .slt (lab x) 1000#32 = 1#1 := by
    have key : ∀ p q : BitVec 1, p &&& q = 1#1 → p = 1#1 ∧ q = 1#1 := by decide
    exact key _ _ hb
  exact word_small _ hs.1 hs.2

end Cert.Proof.Range

end
-- ==== Proof.Reference.lean ====
/-
  The reference's run: a straight line of array operations on the TensorCore, and what its result is.
-/
module

public import proofs.«01_k».proof.Defs
public import proofs.«01_k».proof.Proof.Gen.ReferenceIdeal
public import Idealize.ShloMosaic.Lib.StableHlo.Run

@[expose] public section

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-- A label below zero counts from the end of the table. -/
def wrapped (lab : IVec S16384 32) : IVec S16384 32 :=
  select (cmpi .slt lab (broadcastInDim S16384 ![] bcast_S_S16384 (constantI S_ 32 0#32)))
    (addi lab (broadcastInDim S16384 ![] bcast_S_S16384 (constantI S_ 32 1000#32))) lab

/-- The labels as a column. -/
def column (lab : IVec S16384 32) : IVec S16384x1 32 := broadcastInDim S16384x1 ![0] bcast_S16384_S16384x1_0 (wrapped lab)

/-- Which labels name a row. -/
def named (lab : IVec S16384 32) : IVec S16384x1 1 :=
  andi (cmpi .sge (column lab) (broadcastInDim S16384x1 ![] bcast_S_S16384x1 (constantI S_ 32 0#32)))
    (cmpi .sle (column lab) (broadcastInDim S16384x1 ![0, 1] bcast_S1x1_S16384x1_0_1 (broadcastInDim S1x1 ![1] bcast_S1_S1x1_1 (constantI S1 32 999#32))))

/-- The rows of the table the labels name. -/
def taken (cen : FVec F S1000x128 .f32) (lab : IVec S16384 32) : FVec F S16384x128 .f32 :=
  select (broadcastInDim S16384x128 ![0] bcast_S16384_S16384x128_0 (Host.reduce IntOp.andi (named lab) (constantI S_ 1 1#1) reducesTo_S16384x1_S16384_d1 h_S_))
    (Host.gather gather_S1000x128_S16384x1_S16384x128_1_0_n_n_0_1_1128 cen (column lab))
    (broadcastInDim S16384x128 ![] bcast_S_S16384x128 (constant S_ .f32 0x7FC00000#32))

/-- The squared differences. -/
def squares (lat : FVec F S16384x128 .f32) (lab : IVec S16384 32) (cen : FVec F S1000x128 .f32) : FVec F S16384x128 .f32 :=
  mulf (subf lat (taken cen lab)) (subf lat (taken cen lab))

/-- Their mean over the batch of each row's sum. -/
def meanOf (lat : FVec F S16384x128 .f32) (lab : IVec S16384 32) (cen : FVec F S1000x128 .f32) : FVec F S_ .f32 :=
  Host.divf (Host.reduceAdd (Host.reduceAdd (squares lat lab cen) (constant S_ .f32 0x00000000#32) reducesTo_S16384x128_S16384_d1 h_S_)
    (constant S_ .f32 0x00000000#32) reducesTo_S16384_S_d0 h_S_) (constant S_ .f32 0x46800000#32)

/-- @main's operations in order. -/
abbrev ops : List (HloOp τ sig (Elt F)) :=
  [ nullary main_call0_c (constantI S_ 32 0#32),
    unary main_call0_c main_call0_v0 (broadcastInDim S16384 ![] bcast_S_S16384),
    binary main_arg1 main_call0_v0 main_call0_v1 (cmpi .slt),
    nullary main_call0_c_0 (constantI S_ 32 1000#32),
    unary main_call0_c_0 main_call0_v2 (broadcastInDim S16384 ![] bcast_S_S16384),
    binary main_arg1 main_call0_v2 main_call0_v3 addi,
    ternary main_call0_v1 main_call0_v3 main_arg1 main_call0_v4 select,
    unary main_call0_v4 main_call0_v5 (broadcastInDim S16384x1 ![0] bcast_S16384_S16384x1_0),
    nullary main_call0_c_1 (constantI S1 32 999#32),
    nullary main_call0_c_2 (constantI S_ 32 0#32),
    unary main_call0_c_2 main_call0_v6 (broadcastInDim S16384x1 ![] bcast_S_S16384x1),
    binary main_call0_v5 main_call0_v6 main_call0_v7 (cmpi .sge),
    unary main_call0_c_1 main_call0_v8 (broadcastInDim S1x1 ![1] bcast_S1_S1x1_1),
    unary main_call0_v8 main_call0_v9 (broadcastInDim S16384x1 ![0, 1] bcast_S1x1_S16384x1_0_1),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S16384x1_S16384_d1 h_S_),
    binary main_arg2 main_call0_v5 main_call0_v13 (fun x i => Host.gather gather_S1000x128_S16384x1_S16384x128_1_0_n_n_0_1_1128 x i),
    unary main_call0_v12 main_call0_v14 (broadcastInDim S16384x128 ![0] bcast_S16384_S16384x128_0),
    nullary main_call0_cst (constant S_ .f32 0x7FC00000#32),
    unary main_call0_cst main_call0_v15 (broadcastInDim S16384x128 ![] bcast_S_S16384x128),
    ternary main_call0_v14 main_call0_v13 main_call0_v15 main_v0 select,
    binary main_arg0 main_v0 main_v1 (subf : (⟨S16384x128, .f32⟩ : BufTy).Contents (Elt F) → (⟨S16384x128, .f32⟩ : BufTy).Contents (Elt F) → (⟨S16384x128, .f32⟩ : BufTy).Contents (Elt F)),
    binary main_v1 main_v1 main_v2 (mulf : (⟨S16384x128, .f32⟩ : BufTy).Contents (Elt F) → (⟨S16384x128, .f32⟩ : BufTy).Contents (Elt F) → (⟨S16384x128, .f32⟩ : BufTy).Contents (Elt F)),
    nullary main_cst (constant S_ .f32 0x00000000#32),
    binary main_v2 main_cst main_v3 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    nullary main_cst_0 (constant S_ .f32 0x00000000#32),
    binary main_v3 main_cst_0 main_v4 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_1 (constant S_ .f32 0x46800000#32),
    binary main_v4 main_cst_1 main_v5 (Host.divf : (⟨S_, .f32⟩ : BufTy).Contents (Elt F) → (⟨S_, .f32⟩ : BufTy).Contents (Elt F) → (⟨S_, .f32⟩ : BufTy).Contents (Elt F)) ]

set_option maxRecDepth 20000 in
/-- @main is that line. -/
theorem main_eq (c : Dev nD) : main (F := F) c = seq ops := by
  simp only [main, fn_take.body, fn_where.body, seq, bind_assoc, pure_bind]
  rfl

/-- The result is the mean. -/
theorem out_eq (V : Valuation τ sig (Elt F)) :
    after ops V (main_v5 : DevRef τ sig) = meanOf (V (main_arg0 : DevRef τ sig)) (V (main_arg1 : DevRef τ sig)) (V (main_arg2 : DevRef τ sig)) := by
  after_results_simp
  rfl

/-- No operation writes `latent`. -/
theorem arg0_eq (V : Valuation τ sig (Elt F)) : after ops V (main_arg0 : DevRef τ sig) = V (main_arg0 : DevRef τ sig) := by
  simp only [after_cons, after_nil]; rfl
/-- No operation writes `labels`. -/
theorem arg1_eq (V : Valuation τ sig (Elt F)) : after ops V (main_arg1 : DevRef τ sig) = V (main_arg1 : DevRef τ sig) := by
  simp only [after_cons, after_nil]; rfl
/-- No operation writes `centers`. -/
theorem arg2_eq (V : Valuation τ sig (Elt F)) : after ops V (main_arg2 : DevRef τ sig) = V (main_arg2 : DevRef τ sig) := by
  simp only [after_cons, after_nil]; rfl

/-- No buffer is scoped. -/
theorem no_scoped : (Finset.univ.filter fun b : Ref sig .tc => b.isScoped) = ∅ := by decide
/-- No semaphore is scoped. -/
theorem no_sems : (Finset.univ.filter fun sm : SemLoc sig => sm.isScoped .tc) = ∅ := by decide
/-- Every operation touches buffers of the TensorCore alone. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub .., ternary_bufs_sub ..,
    binary_bufs_sub .., binary_bufs_sub .., nullary_bufs_sub .., binary_bufs_sub .., nullary_bufs_sub .., binary_bufs_sub .., nullary_bufs_sub .., binary_bufs_sub ..⟩

/-- Every run ends with the mean in the result and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = meanOf (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v5).trans (out_eq _), (h c main_arg0).trans (arg0_eq _), (h c main_arg1).trans (arg1_eq _), (h c main_arg2).trans (arg2_eq _)⟩)
    (run_seq no_scoped no_sems defs main (fun _ => ops) main_eq (fun _ => ops_sub) m ρ)

end Cert.Proof.Reference

end
-- ==== Proof.Take.lean ====
/-
  What the reference takes from the table: for a label that names a row, that row.
-/
module

public import proofs.«01_k».proof.Proof.Reference
public import Idealize.ShloMosaic.Lib.Routing.Ops
public import Idealize.ShloMosaic.Lib.ReduceAll
public import Idealize.ShloMosaic.Lib.StableHlo.Predicate
public import Idealize.ShloMosaic.Lib.ValueIdxCore

@[expose] public section

noncomputable section

namespace Cert.Proof.Reference

open Cert.ReferenceIdeal Cert.ReferenceIdeal.Gen
open Idealize.ShloMosaic Idealize.ShloMosaic.ValueIdx

variable {F : FTy → Type} [FloatOps F]

/-- A label in range is not below zero, so it stays as it is. -/
theorem wrapped_at (lab : IVec S16384 32) (hl : ∀ x, (lab x).toNat < 1000) (x : S16384.Idx) : wrapped lab x = lab x := by
  have h0 : IntOp.cmpi .slt (lab x) 0#32 = 0#1 := by
    rcases BitVec.eq_zero_or_eq_one (IntOp.cmpi .slt (lab x) 0#32) with h | h
    · exact h
    · exact absurd ((StableHlo.Predicate.slt_iff_toNat (by have := hl x; omega) (by decide)).1 h) (by simp)
  show Scalar.select (IntOp.cmpi .slt (lab x) 0#32) _ (lab x) = _
  rw [h0]
  rfl

/-- The column holds the labels. -/
theorem column_at (lab : IVec S16384 32) (hl : ∀ x, (lab x).toNat < 1000) (i : Fin 16384) (z : Fin 1) :
    column lab (ix2 i z) = lab (ix1 i) := by
  refine Eq.trans ?_ (wrapped_at lab hl (ix1 i))
  unfold column broadcastInDim
  refine congrArg (wrapped lab) (funext fun a => ?_)
  obtain rfl : a = 0 := Subsingleton.elim _ _
  rfl

/-- Every label in range names a row. -/
theorem named_at (lab : IVec S16384 32) (hl : ∀ x, (lab x).toNat < 1000) (x : S16384x1.Idx) : named lab x = 1#1 := by
  obtain ⟨i, z, rfl⟩ : ∃ (i : Fin 16384) (z : Fin 1), x = ix2 i z := ⟨x 0, x 1, by funext a; match a with | ⟨0, _⟩ => rfl | ⟨1, _⟩ => rfl⟩
  have hx := hl (ix1 i)
  show IntOp.andi (IntOp.cmpi .sge (column lab (ix2 i z)) 0#32) (IntOp.cmpi .sle (column lab (ix2 i z)) 999#32) = 1#1
  rw [column_at lab hl, (StableHlo.Predicate.sge_iff_toNat (by omega) (by decide)).2 (by simp),
    (StableHlo.Predicate.sle_iff_toNat (by omega) (by decide)).2 (by simp; omega)]
  rfl

/-- Row `i` of what is taken is the table's row of label `i`. -/
theorem taken_at (cen : FVec F S1000x128 .f32) (lab : IVec S16384 32) (hl : ∀ x, (lab x).toNat < 1000) (i : Fin 16384) (k : Fin 128) :
    taken cen lab (ix2 i k) = cen (ix2 (Fin.ofNat 1000 (lab (ix1 i)).toNat) k) := by
  have hm : broadcastInDim S16384x128 ![0] bcast_S16384_S16384x128_0
      (Host.reduce IntOp.andi (named lab) (constantI S_ 1 1#1) reducesTo_S16384x1_S16384_d1 h_S_) (ix2 i k) = 1#1 := by
    unfold broadcastInDim
    exact Host.reduce_andi_one _ _ _ _ _ rfl (named_at lab hl)
  unfold taken
  rw [select_apply, hm, select_one]
  refine Routing.gather_row _ rfl rfl rfl rfl rfl cen (column lab) i k _ ?_ (by decide)
  rw [column_at lab hl]
  refine BitVec.eq_of_toNat_eq ?_
  have hx := hl (ix1 i)
  simp [Fin.ofNat, Nat.mod_eq_of_lt hx]

end Cert.Proof.Reference

end
-- ==== Proof.Sums.lean ====
/-
  The kernel's partial sums over the extended reals: a subcore's row of the result holds, lane by lane, the sums of the
  squared differences of its 512 rows over the columns of that lane; and all the rows and lanes together are the sum over
  the whole array.
-/
module

public import proofs.«01_k».proof.Proof.Value
public import Idealize.ShloMosaic.Lib.IdealHost

@[expose] public section

noncomputable section

namespace Cert.Proof.Sums

open Cert.KernelIdeal Cert.KernelIdeal.Gen Cert.Proof.Value
open Idealize.ShloMosaic Finset

/-- A sum over `a * b` numbers is a sum over `a` blocks of `b`. -/
theorem sum_blocks {M : Type*} [AddCommMonoid M] (f : ℕ → M) (b : ℕ) :
    ∀ a : ℕ, ∑ i ∈ range (a * b), f i = ∑ x ∈ range a, ∑ y ∈ range b, f (b * x + y)
  | 0 => by simp
  | a + 1 => by
    rw [Nat.succ_mul, sum_range_add, sum_blocks f b a, sum_range_succ, Nat.mul_comm a b]

/-- The squared difference at row `i`, column `c`; zero outside the array. -/
def diffSq (lat : S16384x128.Idx → EReal) (lab : S16384.Idx → BitVec 32) (cen : S1000x128.Idx → EReal) (i c : ℕ) : EReal :=
  if h : i < 16384 ∧ c < 128 then
    (lat (ix2 ⟨i, h.1⟩ ⟨c, h.2⟩) - cen (ix2 (Fin.ofNat 1000 (lab (ix1 ⟨i, h.1⟩)).toNat) ⟨c, h.2⟩))
      * (lat (ix2 ⟨i, h.1⟩ ⟨c, h.2⟩) - cen (ix2 (Fin.ofNat 1000 (lab (ix1 ⟨i, h.1⟩)).toNat) ⟨c, h.2⟩))
  else 0

/-- The squared difference of two blocks at row `r`, lane `l` of column group `k`; zero past the last row. -/
def blkSq (f g : Blk Ideal) (k : Fin 8) (l : Fin 16) (r : ℕ) : EReal :=
  if h : r < 128 then
    ((seg f ⟨r, h⟩ k (ix1 l) : EReal) - (seg g ⟨r, h⟩ k (ix1 l) : EReal)) * ((seg f ⟨r, h⟩ k (ix1 l) : EReal) - (seg g ⟨r, h⟩ k (ix1 l) : EReal))
  else 0

/-- The accumulators after `n` rows of a block: what they were, and the rows' squared differences. -/
theorem rows_at (f g : Blk Ideal) (A : Accs Ideal) (k : Fin 8) (l : Fin 16) :
    ∀ n : ℕ, (rows f g n A k (ix1 l) : EReal) = (A k (ix1 l) : EReal) + ∑ r ∈ range n, blkSq f g k l r
  | 0 => by rw [range_zero, sum_empty, add_zero]; rfl
  | n + 1 => by
    rw [sum_range_succ, ← add_assoc, ← rows_at f g A k l n]
    conv_lhs => unfold rows
    unfold blkSq
    split
    · rfl
    · rw [add_zero]

/-- A block's squared difference is the array's. -/
theorem blkSq_eq (lat : S16384x128.Idx → EReal) (lab : S16384.Idx → BitVec 32) (cen : S1000x128.Idx → EReal) (w : Fin 32) (j : Fin 4)
    (k : Fin 8) (l : Fin 16) (r : ℕ) (hr : r < 128) :
    blkSq (latBlk (F := Ideal) lat w j) (cenBlk (F := Ideal) cen lab w j) k l r = diffSq lat lab cen (512 * w.val + (128 * j.val + r)) (16 * k.val + l.val) := by
  have h : 512 * w.val + (128 * j.val + r) < 16384 ∧ 16 * k.val + l.val < 128 := by omega
  have e : (⟨512 * w.val + (128 * j.val + r), h.1⟩ : Fin 16384) = ⟨512 * w.val + 128 * j.val + r, by omega⟩ := Fin.ext (Nat.add_assoc _ _ _).symm
  unfold blkSq diffSq
  rw [dif_pos hr, dif_pos h, e]
  rfl

/-- The accumulators of subcore `w` after `n` chunks. -/
theorem chunks_at (lat : S16384x128.Idx → EReal) (lab : S16384.Idx → BitVec 32) (cen : S1000x128.Idx → EReal) (w : Fin 32) (k : Fin 8) (l : Fin 16) :
    ∀ n : ℕ, n ≤ 4 → (chunks (F := Ideal) lat lab cen w n k (ix1 l) : EReal)
      = ∑ j ∈ range n, ∑ r ∈ range 128, diffSq lat lab cen (512 * w.val + (128 * j + r)) (16 * k.val + l.val)
  | 0, _ => by
    rw [range_zero, sum_empty]
    exact Ideal.ofBits_zero_f32
  | n + 1, hn => by
    have h : n < 4 := hn
    rw [sum_range_succ, ← chunks_at lat lab cen w k l n (by omega)]
    conv_lhs => unfold chunks
    rw [dif_pos h, rows_at]
    exact congrArg _ (sum_congr rfl fun r hr => blkSq_eq lat lab cen w ⟨n, h⟩ k l r (mem_range.1 hr))

/-- The eight accumulators added are their sum. -/
theorem total_at (A : Accs Ideal) (x : S16.Idx) : (total A x : EReal) = ∑ k : Fin 8, (A k x : EReal) := by
  rw [Fin.sum_univ_eight]
  rfl

/-- Lane `l` of row `w` of the result: the squared differences of the subcore's rows over the lane's columns. -/
theorem partials_sum (lat : S16384x128.Idx → EReal) (lab : S16384.Idx → BitVec 32) (cen : S1000x128.Idx → EReal) (w : Fin 32) (l : Fin 16) :
    (partials (F := Ideal) lat lab cen (ix2 w l) : EReal)
      = ∑ k ∈ range 8, ∑ y ∈ range 512, diffSq lat lab cen (512 * w.val + y) (16 * k + l.val) := by
  refine (total_at (chunks (F := Ideal) lat lab cen w 4) (ix1 l)).trans ?_
  rw [← Fin.sum_univ_eq_sum_range (fun k => ∑ y ∈ range 512, diffSq lat lab cen (512 * w.val + y) (16 * k + l.val)) 8]
  refine sum_congr rfl fun k _ => ?_
  rw [chunks_at lat lab cen w k l 4 le_rfl]
  exact (sum_blocks (fun y => diffSq lat lab cen (512 * w.val + y) (16 * k.val + l.val)) 128 4).symm

/-- All the result's elements together: the sum of the squared differences over the whole array. -/
theorem partials_all (lat : S16384x128.Idx → EReal) (lab : S16384.Idx → BitVec 32) (cen : S1000x128.Idx → EReal) :
    ∑ x : S32x16.Idx, (partials (F := Ideal) lat lab cen x : EReal) = ∑ i ∈ range 16384, ∑ c ∈ range 128, diffSq lat lab cen i c := by
  have hcol : ∀ i, ∑ c ∈ range 128, diffSq lat lab cen i c = ∑ l ∈ range 16, ∑ k ∈ range 8, diffSq lat lab cen i (16 * k + l) := fun i => by
    rw [sum_comm]
    exact sum_blocks (fun c => diffSq lat lab cen i c) 16 8
  have hrow := sum_blocks (fun i => ∑ c ∈ range 128, diffSq lat lab cen i c) 512 32
  refine Eq.trans ?_ hrow.symm
  rw [sum_idx2, ← Fin.sum_univ_eq_sum_range (fun w => ∑ y ∈ range 512, ∑ c ∈ range 128, diffSq lat lab cen (512 * w + y) c) 32]
  refine sum_congr rfl fun w _ => ?_
  simp only [hcol, partials_sum]
  rw [Fin.sum_univ_eq_sum_range (fun l => ∑ k ∈ range 8, ∑ y ∈ range 512, diffSq lat lab cen (512 * w.val + y) (16 * k + l)) 16]
  rw [sum_comm (s := range 512)]
  exact sum_congr rfl fun l _ => sum_comm

end Cert.Proof.Sums

end
-- ==== Proof.Equation.lean ====
/-
  The equation, over the extended reals: where every label names a row of the table, the kernel's result is the
  reference's. Both are the sum of the squared differences over the whole array, divided by the number of rows.
-/
module

public import proofs.«01_k».proof.Proof.Take
public import proofs.«01_k».proof.Proof.Sums

@[expose] public section

noncomputable section

namespace Cert.Proof.Equation

open Cert.Proof.Value Cert.Proof.Sums Cert.Proof.Reference
open Idealize.ShloMosaic Finset

/-- A result of no axes is read at its one index. -/
theorem no_axes (b : Fin Cert.KernelIdeal.S_.rank) : Cert.KernelIdeal.S_.size b = 1 := b.elim0

/-- The kernel's sum of its 32 × 16 array. -/
theorem kernel_sum (lat : FVec Ideal Cert.KernelIdeal.S16384x128 .f32) (lab : IVec Cert.KernelIdeal.S16384 32) (cen : FVec Ideal Cert.KernelIdeal.S1000x128 .f32)
    (j : Cert.KernelIdeal.S_.Idx) :
    (Host.reduceAdd (F := Ideal) (φ := .f32) (partials (F := Ideal) lat lab cen) (constant Cert.KernelIdeal.S_ .f32 0x00000000#32)
        Cert.KernelIdeal.Facts₀.reducesTo_S32x16_S_d0_1 Cert.KernelIdeal.Facts₀.h_S_ j : EReal)
      = ∑ i ∈ range 16384, ∑ c ∈ range 128, diffSq lat lab cen i c := by
  rw [ValueIdx.hostReduceAdd_apply, Ideal.hostReduceAdd_total _ no_axes]
  refine Eq.trans (congrArg₂ (· + ·) Ideal.ofBits_zero_f32 (partials_all lat lab cen)) (zero_add _)

/-- A squared difference of the reference. -/
theorem squares_at (lat : FVec Ideal Cert.ReferenceIdeal.S16384x128 .f32) (lab : IVec Cert.ReferenceIdeal.S16384 32) (cen : FVec Ideal Cert.ReferenceIdeal.S1000x128 .f32)
    (hl : ∀ x, (lab x).toNat < 1000) (i : Fin 16384) (c : Fin 128) :
    (squares lat lab cen (ValueIdx.ix2 i c) : EReal) = diffSq lat lab cen i.val c.val := by
  have h : i.val < 16384 ∧ c.val < 128 := ⟨i.isLt, c.isLt⟩
  unfold diffSq
  rw [dif_pos h]
  have ht := taken_at (F := Ideal) cen lab hl i c
  have e : (squares lat lab cen (ValueIdx.ix2 i c) : EReal)
      = ((lat (ValueIdx.ix2 i c) : EReal) - (taken cen lab (ValueIdx.ix2 i c) : EReal)) * ((lat (ValueIdx.ix2 i c) : EReal) - (taken cen lab (ValueIdx.ix2 i c) : EReal)) := rfl
  rw [e, ht]
  rfl

/-- The reference's two sums. -/
theorem reference_sum (lat : FVec Ideal Cert.ReferenceIdeal.S16384x128 .f32) (lab : IVec Cert.ReferenceIdeal.S16384 32) (cen : FVec Ideal Cert.ReferenceIdeal.S1000x128 .f32)
    (hl : ∀ x, (lab x).toNat < 1000) (j : Cert.ReferenceIdeal.S_.Idx) :
    (Host.reduceAdd (F := Ideal) (φ := .f32) (Host.reduceAdd (squares lat lab cen) (constant Cert.ReferenceIdeal.S_ .f32 0x00000000#32)
          Cert.ReferenceIdeal.Facts₀.reducesTo_S16384x128_S16384_d1 Cert.ReferenceIdeal.Facts₀.h_S_)
        (constant Cert.ReferenceIdeal.S_ .f32 0x00000000#32) Cert.ReferenceIdeal.Facts₀.reducesTo_S16384_S_d0 Cert.ReferenceIdeal.Facts₀.h_S_ j : EReal)
      = ∑ i ∈ range 16384, ∑ c ∈ range 128, diffSq lat lab cen i c := by
  rw [ValueIdx.hostReduceAdd_apply, Ideal.hostReduceAdd_r1_a0]
  refine Eq.trans (congrArg₂ (· + ·) Ideal.ofBits_zero_f32 ?_) (zero_add _)
  rw [← Fin.sum_univ_eq_sum_range (fun i => ∑ c ∈ range 128, diffSq lat lab cen i c) 16384]
  refine sum_congr rfl fun i _ => ?_
  rw [ValueIdx.hostReduceAdd_apply, Ideal.hostReduceAdd_r2_a1]
  refine Eq.trans (congrArg₂ (· + ·) Ideal.ofBits_zero_f32 ?_) (zero_add _)
  rw [← Fin.sum_univ_eq_sum_range (fun c => diffSq lat lab cen i.val c) 128]
  exact sum_congr rfl fun c _ => squares_at lat lab cen hl i c

/-- The two results are equal. -/
theorem mean_eq (lat : FVec Ideal Cert.KernelIdeal.S16384x128 .f32) (lab : IVec Cert.KernelIdeal.S16384 32) (cen : FVec Ideal Cert.KernelIdeal.S1000x128 .f32)
    (hl : ∀ x, (lab x).toNat < 1000) :
    Host.divf (Host.reduceAdd (F := Ideal) (φ := .f32) (partials (F := Ideal) lat lab cen) (constant Cert.KernelIdeal.S_ .f32 0x00000000#32)
        Cert.KernelIdeal.Facts₀.reducesTo_S32x16_S_d0_1 Cert.KernelIdeal.Facts₀.h_S_) (constant Cert.KernelIdeal.S_ .f32 0x46800000#32)
      = meanOf (F := Ideal) lat lab cen := by
  funext j
  exact congrArg (fun s : EReal => Ideal.div s (Ideal.ofBits .f32 0x46800000#32))
    ((kernel_sum lat lab cen j).trans (reference_sum lat lab cen hl j).symm)

end Cert.Proof.Equation

end
-- ==== Proof.lean ====
/-
  The five claims: the frames of the kernel over words and over the extended reals and of the reference, that the kernel's
  ideal is the kernel (no rewrites), and that the kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_labels_in_range
public import Idealize.ShloMosaic.Adequacy
public import Idealize.ShloMosaic.Init
public import Idealize.ShloMosaic.Lib.Quiescent
public import proofs.«01_k».proof.Proof.Launch
public import proofs.«01_k».proof.Proof.Range
public import proofs.«01_k».proof.Proof.Equation

@[expose] public section

noncomputable section

namespace Cert.Proof

open Idealize.ShloMosaic Idealize.SL.Sem

/-- The precondition, over the extended reals, bounds every label of every device. -/
theorem small_ideal (m : (ℓ : Loc Cert.KernelIdeal.nD Cert.KernelIdeal.τ Cert.KernelIdeal.sig) → Buf (Elt Ideal) ℓ) (hp : Cert.Pre_KernelIdeal m)
    (d : Dev Cert.KernelIdeal.nD) (x : Cert.KernelIdeal.S16384.Idx) : BitVec.toNat (m (Run.labLoc d) x) < 1000 :=
  Range.small (F := Ideal) _ _ _ (hp d) x

/-- The precondition, over words, bounds every label of every device. -/
theorem small_bits (m : (ℓ : Loc Cert.Kernel.nD Cert.Kernel.τ Cert.Kernel.sig) → Buf (Elt Bits) ℓ) (hp : Cert.Pre_Kernel m)
    (d : Dev Cert.Kernel.nD) (x : Cert.Kernel.S16384.Idx) : BitVec.toNat (m (Run.labLoc d) x) < 1000 :=
  Range.small (F := Bits) _ _ _ (hp d) x

/-- The kernel over words ends, leaves its arguments and ends with every semaphore at zero. -/
theorem frame_kernel : Cert.quiescent_Kernel := fun m ρ hp =>
  (θ_run Cert.Kernel.defs _ _).mono (fun _ h => ⟨fun c => (h.1 c).2, h.2⟩)
    (Run.run_main (F := Bits) m ρ (small_bits m hp))

/-- The kernel over the extended reals ends, leaves its arguments and ends with every semaphore at zero. -/
theorem frame_ideal : Cert.quiescent_KernelIdeal := fun m ρ hp =>
  (θ_run Cert.KernelIdeal.defs _ _).mono (fun _ h => ⟨fun c => (h.1 c).2, h.2⟩)
    (Run.run_main (F := Ideal) m ρ (small_ideal m hp))

/-- The reference ends and leaves its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Reference.run (F := Ideal) m ρ)

/-- The same of memories with labels in range alone. -/
theorem frame_reference_range : Cert.quiescent_ReferenceIdeal_pre_labels_in_range := fun m ρ _ => frame_reference m ρ trivial

/-- From the same arguments the kernel and the reference end with the same mean. -/
theorem algebraic : Cert.algebraic_KernelIdeal_ReferenceIdeal := by
  intro m ρ m' ρ' hp hm
  refine ⟨fun c => Run.meanV (F := Ideal) m c, ?_, ?_⟩
  · exact (θ_run Cert.KernelIdeal.defs _ _).mono (fun _ h => h.1) (Run.run_main (F := Ideal) m ρ (small_ideal m hp))
  · refine (θ_run Cert.ReferenceIdeal.defs _ _).mono (fun _ h c => ⟨(h c).1.trans ?_, (h c).2⟩) (Reference.run (F := Ideal) m' ρ')
    rw [(hm c).1, (hm c).2.1, (hm c).2.2]
    exact (Equation.mean_eq _ _ _ (small_ideal m hp c)).symm

/-- The five claims together. -/
theorem claim : Cert.Claim :=
  ⟨Cert.Kernel.Gen.facts, Cert.KernelIdeal.Gen.facts, Cert.ReferenceIdeal.Gen.facts, Cert.Pre_labels_in_range.Gen.facts,
    frame_kernel, frame_ideal, frame_reference, frame_reference_range, trivial, algebraic⟩

end Cert.Proof

end
